-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1000000x2 : Shape := ⟨2, ![1000000, 2]⟩
abbrev S625x100x32 : Shape := ⟨3, ![625, 100, 32]⟩
abbrev S625x100x16 : Shape := ⟨3, ![625, 100, 16]⟩
abbrev S2x1x100x32 : Shape := ⟨4, ![2, 1, 100, 32]⟩
abbrev S2 : Shape := ⟨1, ![2]⟩
abbrev S2x1x100x16 : Shape := ⟨4, ![2, 1, 100, 16]⟩
abbrev S1x1x100x32 : Shape := ⟨4, ![1, 1, 100, 32]⟩
abbrev S1x100x32 : Shape := ⟨3, ![1, 100, 32]⟩
abbrev S1 : Shape := ⟨1, ![1]⟩
abbrev S_ : Shape := ⟨0, ![]⟩
abbrev S16 : Shape := ⟨1, ![16]⟩
abbrev S1x1x32 : Shape := ⟨3, ![1, 1, 32]⟩
abbrev S32 : Shape := ⟨1, ![32]⟩
abbrev S1x1x100x16 : Shape := ⟨4, ![1, 1, 100, 16]⟩
abbrev S1x100x16 : Shape := ⟨3, ![1, 100, 16]⟩
abbrev S1x1x16 : Shape := ⟨3, ![1, 1, 16]⟩
abbrev S1000000x1 : Shape := ⟨2, ![1000000, 1]⟩

abbrev nBuf : Table → Nat
  | .hbm => 4
  | .local .scVector .vmem => 2
  | _ => 0

abbrev bufTy : (tb : Table) → Fin (nBuf tb) → BufTy
  | .hbm, ⟨0, _⟩ => ⟨S1000000x2, .f32⟩
  | .hbm, ⟨1, _⟩ => ⟨S625x100x32, .f32⟩
  | .hbm, ⟨2, _⟩ => ⟨S625x100x16, .f32⟩
  | .hbm, ⟨3, _⟩ => ⟨S1000000x1, .f32⟩
  | .local .scVector .vmem, ⟨0, _⟩ => ⟨S2x1x100x32, .f32⟩
  | .local .scVector .vmem, ⟨1, _⟩ => ⟨S2x1x100x16, .f32⟩
  | _, _ => ⟨S1000000x2, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c17_i32 : BitVec 32 := 17#32
  let v4 : BitVec 1 := Scalar.cmpi .slt v3 c17_i32
  let c20_i32 : BitVec 32 := 20#32
  let c19_i32 : BitVec 32 := 19#32
  let v5 : BitVec 32 := Scalar.select v4 c20_i32 c19_i32
  let v11 : BitVec 32 := Scalar.muli c1_i32_3 v5
  let c0_i32_5_r0 : BitVec 32 := 0#32
  let v14_r0 : BitVec 1 := Scalar.cmpi .sgt v11 c0_i32_5_r0
  let v15_r0 : BitVec 32 := Scalar.extui v14_r0
  let c0_i32_6_r0 : BitVec 32 := 0#32
  let v16_r0 : BitVec 1 := Scalar.cmpi .ne v15_r0 c0_i32_6_r0
  v16_r0

def k0_cond2 (i : grid0.Coords) : BitVec 1 :=
  let true_22_r0 : BitVec 1 := 1#1
  let c1_i32_7_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c17_i32 : BitVec 32 := 17#32
  let v4 : BitVec 1 := Scalar.cmpi .slt v3 c17_i32
  let c20_i32 : BitVec 32 := 20#32
  let c19_i32 : BitVec 32 := 19#32
  let v5 : BitVec 32 := Scalar.select v4 c20_i32 c19_i32
  let v17_r0 : BitVec 32 := Scalar.muli c1_i32_7_r0 v5
  let c0_i32_21_r0 : BitVec 32 := 0#32
  let v35_r0 : BitVec 1 := Scalar.cmpi .sgt v17_r0 c0_i32_21_r0
  let v36_r0 : BitVec 1 := Scalar.andi true_22_r0 v35_r0
  let true_23_r0 : BitVec 1 := 1#1
  let v37_r0 : BitVec 1 := Scalar.andi v36_r0 true_23_r0
  let v38_r0 : BitVec 32 := Scalar.extui v37_r0
  let c0_i32_25_r0 : BitVec 32 := 0#32
  let v39_r0 : BitVec 1 := Scalar.cmpi .ne v38_r0 c0_i32_25_r0
  v39_r0

def k0_off1 : Fin 4 → Nat :=
  let c0_i32_24_r0 : BitVec 32 := 0#32
  let c2_i32_r0 : BitVec 32 := 2#32
  let v80_r0 : BitVec 32 := Scalar.remui c0_i32_24_r0 c2_i32_r0
  let c0_i32_58_r0 : BitVec 32 := 0#32
  let c0_i32_59_r0 : BitVec 32 := 0#32
  let c0_i32_60_r0 : BitVec 32 := 0#32
  ![v80_r0.toNat, 0, 0, 0]
def k0_off2 (i : grid0.Coords) : Fin 3 → Nat :=
  let c1_i32_57_r0 : BitVec 32 := 1#32
  let c0_i32_10_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c17_i32_0 : BitVec 32 := 17#32
  let v6 : BitVec 1 := Scalar.cmpi .slt v3 c17_i32_0
  let c17_i32 : BitVec 32 := 17#32
  let v4 : BitVec 1 := Scalar.cmpi .slt v3 c17_i32
  let c20_i32 : BitVec 32 := 20#32
  let c19_i32 : BitVec 32 := 19#32
  let v5 : BitVec 32 := Scalar.select v4 c20_i32 c19_i32
  let v7 : BitVec 32 := Scalar.muli v3 v5
  let c19_i32_1 : BitVec 32 := 19#32
  let v8 : BitVec 32 := Scalar.muli v3 c19_i32_1
  let c17_i32_2 : BitVec 32 := 17#32
  let v9 : BitVec 32 := Scalar.addi v8 c17_i32_2
  let v10 : BitVec 32 := Scalar.select v6 v7 v9
  let v20_r0 : BitVec 32 := Scalar.addi c0_i32_10_r0 v10
  let v81_r0 : BitVec 32 := Scalar.muli c1_i32_57_r0 v20_r0
  let c0_i32_61_r0 : BitVec 32 := 0#32
  let c0_i32_62_r0 : BitVec 32 := 0#32
  ![v81_r0.toNat, 0, 0]
def k0_off3 : Fin 1 → Nat :=
  let c0_i32_24_r0 : BitVec 32 := 0#32
  let c2_i32_r0 : BitVec 32 := 2#32
  let v80_r0 : BitVec 32 := Scalar.remui c0_i32_24_r0 c2_i32_r0
  ![v80_r0.toNat]
@[reducible] def k0_t1_loop (i : grid0.Coords) : Scf.Loop 32 :=
  let c0_i32_29_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c17_i32 : BitVec 32 := 17#32
  let v4 : BitVec 1 := Scalar.cmpi .slt v3 c17_i32
  let c20_i32 : BitVec 32 := 20#32
  let c19_i32 : BitVec 32 := 19#32
  let v5 : BitVec 32 := Scalar.select v4 c20_i32 c19_i32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_35_r0 : BitVec 32 := 1#32
  ⟨c0_i32_29_r0, v46_r0, c1_i32_35_r0⟩
def k0_off4 (arg5_r0 : BitVec 32) : Fin 4 → Nat :=
  let c2_i32_105_r0 : BitVec 32 := 2#32
  let v173_r0 : BitVec 32 := Scalar.remui arg5_r0 c2_i32_105_r0
  let c0_i32_107_r0 : BitVec 32 := 0#32
  let c0_i32_108_r0 : BitVec 32 := 0#32
  let c0_i32_109_r0 : BitVec 32 := 0#32
  ![v173_r0.toNat, 0, 0, 0]
def k0_cond3 (i : grid0.Coords) (k0_t1 : Fin (k0_t1_loop i).trips) (arg9_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c17_i32_0 : BitVec 32 := 17#32
  let v6 : BitVec 1 := Scalar.cmpi .slt v3 c17_i32_0
  let c17_i32 : BitVec 32 := 17#32
  let v4 : BitVec 1 := Scalar.cmpi .slt v3 c17_i32
  let c20_i32 : BitVec 32 := 20#32
  let c19_i32 : BitVec 32 := 19#32
  let v5 : BitVec 32 := Scalar.select v4 c20_i32 c19_i32
  let v7 : BitVec 32 := Scalar.muli v3 v5
  let c19_i32_1 : BitVec 32 := 19#32
  let v8 : BitVec 32 := Scalar.muli v3 c19_i32_1
  let c17_i32_2 : BitVec 32 := 17#32
  let v9 : BitVec 32 := Scalar.addi v8 c17_i32_2
  let v10 : BitVec 32 := Scalar.select v6 v7 v9
  let v84_r0 : BitVec 32 := Scalar.addi arg9_r0 v10
  let true_65_r0 : BitVec 1 := 1#1
  let c1_i32_64_r0 : BitVec 32 := 1#32
  let v91_r0 : BitVec 32 := Scalar.addi arg9_r0 c1_i32_64_r0
  let v92_r0 : BitVec 32 := Scalar.select true_65_r0 v91_r0 arg9_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v101_r0 : BitVec 1 := Scalar.cmpi .ne v84_r0 v95_r0
  let c0_i32_29_r0 : BitVec 32 := 0#32
  let c1_i32_35_r0 : BitVec 32 := 1#32
  let arg4_r0 : BitVec 32 := Scf.iv c0_i32_29_r0 c1_i32_35_r0 k0_t1
  let c1_i32_57_r0 : BitVec 32 := 1#32
  let v80_r0 : BitVec 32 := Scalar.muli c1_i32_57_r0 v5
  let c2_i32_r0 : BitVec 32 := 2#32
  let v102_r0 : BitVec 32 := Scalar.subi v80_r0 c2_i32_r0
  let c1_i32_70_r0 : BitVec 32 := 1#32
  let v103_r0 : BitVec 32 := Scalar.addi v102_r0 c1_i32_70_r0
  let v104_r0 : BitVec 1 := Scalar.cmpi .sge arg4_r0 v103_r0
  let true_71_r0 : BitVec 1 := 1#1
  let v105_r0 : BitVec 1 := Scalar.xori v104_r0 true_71_r0
  let v106_r0 : BitVec 1 := Scalar.andi v101_r0 v105_r0
  let true_72_r0 : BitVec 1 := 1#1
  let v107_r0 : BitVec 1 := Scalar.andi v106_r0 true_72_r0
  let v108_r0 : BitVec 32 := Scalar.extui v107_r0
  let c0_i32_73_r0 : BitVec 32 := 0#32
  let v109_r0 : BitVec 1 := Scalar.cmpi .ne v108_r0 c0_i32_73_r0
  v109_r0

def k0_off5 (i : grid0.Coords) (arg9_r0 : BitVec 32) : Fin 3 → Nat :=
  let c1_i32_106_r0 : BitVec 32 := 1#32
  let true_65_r0 : BitVec 1 := 1#1
  let c1_i32_64_r0 : BitVec 32 := 1#32
  let v91_r0 : BitVec 32 := Scalar.addi arg9_r0 c1_i32_64_r0
  let v92_r0 : BitVec 32 := Scalar.select true_65_r0 v91_r0 arg9_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c17_i32 : BitVec 32 := 17#32
  let v4 : BitVec 1 := Scalar.cmpi .slt v3 c17_i32
  let c20_i32 : BitVec 32 := 20#32
  let c19_i32 : BitVec 32 := 19#32
  let v5 : BitVec 32 := Scalar.select v4 c20_i32 c19_i32
  let v93_r0 : BitVec 1 := Scalar.cmpi .eq v92_r0 v5
  let c0_i32_66_r0 : BitVec 32 := 0#32
  let v94_r0 : BitVec 32 := Scalar.select v93_r0 c0_i32_66_r0 v92_r0
  let c17_i32_0 : BitVec 32 := 17#32
  let v6 : BitVec 1 := Scalar.cmpi .slt v3 c17_i32_0
  let v7 : BitVec 32 := Scalar.muli v3 v5
  let c19_i32_1 : BitVec 32 := 19#32
  let v8 : BitVec 32 := Scalar.muli v3 c19_i32_1
  let c17_i32_2 : BitVec 32 := 17#32
  let v9 : BitVec 32 := Scalar.addi v8 c17_i32_2
  let v10 : BitVec 32 := Scalar.select v6 v7 v9
  let v95_r0 : BitVec 32 := Scalar.addi v94_r0 v10
  let v174_r0 : BitVec 32 := Scalar.muli c1_i32_106_r0 v95_r0
  let c0_i32_110_r0 : BitVec 32 := 0#32
  let c0_i32_111_r0 : BitVec 32 := 0#32
  ![v174_r0.toNat, 0, 0]
def k0_off6 (arg5_r0 : BitVec 32) : Fin 1 → Nat :=
  let c2_i32_105_r0 : BitVec 32 := 2#32
  let v173_r0 : BitVec 32 := Scalar.remui arg5_r0 c2_i32_105_r0
  ![v173_r0.toNat]
def k0_off7 (arg6_r0 : BitVec 32) : Fin 4 → Nat :=
  let c2_i32_106_r0 : BitVec 32 := 2#32
  let v174_r0 : BitVec 32 := Scalar.remui arg6_r0 c2_i32_106_r0
  let c0_i32_107_r0 : BitVec 32 := 0#32
  let c0_i32_108_r0 : BitVec 32 := 0#32
  let c0_i32_109_r0 : BitVec 32 := 0#32
  ![v174_r0.toNat, 0, 0, 0]
def k0_cond4 (i : grid0.Coords) (k0_t1 : Fin (k0_t1_loop i).trips) (arg9_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c17_i32_0 : BitVec 32 := 17#32
  let v6 : BitVec 1 := Scalar.cmpi .slt v3 c17_i32_0
  let c17_i32 : BitVec 32 := 17#32
  let v4 : BitVec 1 := Scalar.cmpi .slt v3 c17_i32
  let c20_i32 : BitVec 32 := 20#32
  let c19_i32 : BitVec 32 := 19#32
  let v5 : BitVec 32 := Scalar.select v4 c20_i32 c19_i32
  let v7 : BitVec 32 := Scalar.muli v3 v5
  let c19_i32_1 : BitVec 32 := 19#32
  let v8 : BitVec 32 := Scalar.muli v3 c19_i32_1
  let c17_i32_2 : BitVec 32 := 17#32
  let v9 : BitVec 32 := Scalar.addi v8 c17_i32_2
  let v10 : BitVec 32 := Scalar.select v6 v7 v9
  let v84_r0 : BitVec 32 := Scalar.addi arg9_r0 v10
  let true_61_r0 : BitVec 1 := 1#1
  let c1_i32_60_r0 : BitVec 32 := 1#32
  let v85_r0 : BitVec 32 := Scalar.subi arg9_r0 c1_i32_60_r0
  let v86_r0 : BitVec 32 := Scalar.select true_61_r0 v85_r0 arg9_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_29_r0 : BitVec 32 := 0#32
  let c1_i32_35_r0 : BitVec 32 := 1#32
  let arg4_r0 : BitVec 32 := Scf.iv c0_i32_29_r0 c1_i32_35_r0 k0_t1
  let c0_i32_58_r0 : BitVec 32 := 0#32
  let v81_r0 : BitVec 1 := Scalar.cmpi .eq arg4_r0 c0_i32_58_r0
  let v120_r0 : BitVec 1 := Scalar.ori v119_r0 v81_r0
  let c0_i32_79_r0 : BitVec 32 := 0#32
  let v121_r0 : BitVec 1 := Scalar.cmpi .sge arg4_r0 c0_i32_79_r0
  let v122_r0 : BitVec 1 := Scalar.andi v120_r0 v121_r0
  let v123_r0 : BitVec 32 := Scalar.extui v122_r0
  let c0_i32_80_r0 : BitVec 32 := 0#32
  let v124_r0 : BitVec 1 := Scalar.cmpi .ne v123_r0 c0_i32_80_r0
  v124_r0

def k0_off8 (i : grid0.Coords) (arg9_r0 : BitVec 32) : Fin 3 → Nat :=
  let c1_i32_105_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c17_i32_0 : BitVec 32 := 17#32
  let v6 : BitVec 1 := Scalar.cmpi .slt v3 c17_i32_0
  let c17_i32 : BitVec 32 := 17#32
  let v4 : BitVec 1 := Scalar.cmpi .slt v3 c17_i32
  let c20_i32 : BitVec 32 := 20#32
  let c19_i32 : BitVec 32 := 19#32
  let v5 : BitVec 32 := Scalar.select v4 c20_i32 c19_i32
  let v7 : BitVec 32 := Scalar.muli v3 v5
  let c19_i32_1 : BitVec 32 := 19#32
  let v8 : BitVec 32 := Scalar.muli v3 c19_i32_1
  let c17_i32_2 : BitVec 32 := 17#32
  let v9 : BitVec 32 := Scalar.addi v8 c17_i32_2
  let v10 : BitVec 32 := Scalar.select v6 v7 v9
  let v84_r0 : BitVec 32 := Scalar.addi arg9_r0 v10
  let v173_r0 : BitVec 32 := Scalar.muli c1_i32_105_r0 v84_r0
  let c0_i32_110_r0 : BitVec 32 := 0#32
  let c0_i32_111_r0 : BitVec 32 := 0#32
  ![v173_r0.toNat, 0, 0]
def k0_off9 (arg6_r0 : BitVec 32) : Fin 1 → Nat :=
  let c2_i32_106_r0 : BitVec 32 := 2#32
  let v174_r0 : BitVec 32 := Scalar.remui arg6_r0 c2_i32_106_r0
  ![v174_r0.toNat]
@[reducible] def k0_t2_loop : Scf.Loop 32 :=
  let c0_i32_87_r0 : BitVec 32 := 0#32
  let c100_i32_r0 : BitVec 32 := 100#32
  let v138_r0 : BitVec 32 := Scalar.addi c0_i32_87_r0 c100_i32_r0
  let c1_i32_88_r0 : BitVec 32 := 1#32
  ⟨c0_i32_87_r0, v138_r0, c1_i32_88_r0⟩
def k0_off10 (arg6_r0 : BitVec 32) : Fin 4 → Nat :=
  let c2_i32_83_r0 : BitVec 32 := 2#32
  let v131_r0 : BitVec 32 := Scalar.remui arg6_r0 c2_i32_83_r0
  let c0_i32_108_r0 : BitVec 32 := 0#32
  let c0_i32_109_r0 : BitVec 32 := 0#32
  let c0_i32_110_r0 : BitVec 32 := 0#32
  ![v131_r0.toNat, 0, 0, 0]

def k0_off11 (k0_t2 : Fin k0_t2_loop.trips) : Fin 3 → Nat :=
  let c0_i32_107_r0 : BitVec 32 := 0#32
  let c0_i32_106_r0 : BitVec 32 := 0#32
  let c0_i32_87_r0 : BitVec 32 := 0#32
  let c1_i32_88_r0 : BitVec 32 := 1#32
  let arg10_r0 : BitVec 32 := Scf.iv c0_i32_87_r0 c1_i32_88_r0 k0_t2
  let c1_i32_105_r0 : BitVec 32 := 1#32
  let v173_r0 : BitVec 32 := Scalar.muli arg10_r0 c1_i32_105_r0
  let v174_r0 : BitVec 32 := Scalar.addi c0_i32_106_r0 v173_r0
  let c0_i32_111_r0 : BitVec 32 := 0#32
  ![0, v174_r0.toNat, 0]

def k0_chk3 (i : grid0.Coords) (v135_r0 : IVec S16 32) : Prop :=
  (∀ (k0_h1 : k0_cond1 i = 1#1), ∀ a x, ((![v135_r0] : Fin 1 → IVec S16 32) a x).toNat < S32.size a)
theorem k0_idx1_inb : ∀ (i : grid0.Coords) (v135_r0 : IVec S16 32) (k0_hw3 : k0_chk3 i v135_r0), ∀ (k0_h1 : k0_cond1 i = 1#1), ∀ a x, ((![v135_r0] : Fin 1 → IVec S16 32) a x).toNat < S32.size a := fun i v135_r0 k0_hw3 k0_h1 => k0_hw3 k0_h1
def k0_off12 (arg6_r0 : BitVec 32) : Fin 4 → Nat :=
  let c2_i32_83_r0 : BitVec 32 := 2#32
  let v131_r0 : BitVec 32 := Scalar.remui arg6_r0 c2_i32_83_r0
  let c0_i32_113_r0 : BitVec 32 := 0#32
  let c0_i32_114_r0 : BitVec 32 := 0#32
  let c0_i32_115_r0 : BitVec 32 := 0#32
  ![v131_r0.toNat, 0, 0, 0]

def k0_chk2 (i : grid0.Coords) (arg6_r0 : BitVec 32) : Prop :=
  (∀ (k0_h1 : k0_cond1 i = 1#1), ∀ a, (k0_off10 arg6_r0) a + S1x1x100x32.size a ≤ S2x1x100x32.size a) ∧
  (∀ (k0_h1 : k0_cond1 i = 1#1), ∀ a, (k0_off12 arg6_r0) a + S1x1x100x32.size a ≤ S2x1x100x32.size a)
theorem k0_off10_inb : ∀ (i : grid0.Coords) (arg6_r0 : BitVec 32) (k0_hw2 : k0_chk2 i arg6_r0), ∀ (k0_h1 : k0_cond1 i = 1#1), ∀ a, (k0_off10 arg6_r0) a + S1x1x100x32.size a ≤ S2x1x100x32.size a := fun i arg6_r0 k0_hw2 k0_h1 => k0_hw2.1 k0_h1
theorem k0_off12_inb : ∀ (i : grid0.Coords) (arg6_r0 : BitVec 32) (k0_hw2 : k0_chk2 i arg6_r0), ∀ (k0_h1 : k0_cond1 i = 1#1), ∀ a, (k0_off12 arg6_r0) a + S1x1x100x32.size a ≤ S2x1x100x32.size a := fun i arg6_r0 k0_hw2 k0_h1 => k0_hw2.2 k0_h1

def k0_off13 (k0_t2 : Fin k0_t2_loop.trips) : Fin 3 → Nat :=
  let c0_i32_112_r0 : BitVec 32 := 0#32
  let c0_i32_106_r0 : BitVec 32 := 0#32
  let c0_i32_87_r0 : BitVec 32 := 0#32
  let c1_i32_88_r0 : BitVec 32 := 1#32
  let arg10_r0 : BitVec 32 := Scf.iv c0_i32_87_r0 c1_i32_88_r0 k0_t2
  let c1_i32_105_r0 : BitVec 32 := 1#32
  let v173_r0 : BitVec 32 := Scalar.muli arg10_r0 c1_i32_105_r0
  let v174_r0 : BitVec 32 := Scalar.addi c0_i32_106_r0 v173_r0
  let c0_i32_116_r0 : BitVec 32 := 0#32
  ![0, v174_r0.toNat, 0]

def k0_chk4 (i : grid0.Coords) (v137_r0 : IVec S16 32) : Prop :=
  (∀ (k0_h1 : k0_cond1 i = 1#1), ∀ a x, ((![v137_r0] : Fin 1 → IVec S16 32) a x).toNat < S32.size a)
theorem k0_idx2_inb : ∀ (i : grid0.Coords) (v137_r0 : IVec S16 32) (k0_hw4 : k0_chk4 i v137_r0), ∀ (k0_h1 : k0_cond1 i = 1#1), ∀ a x, ((![v137_r0] : Fin 1 → IVec S16 32) a x).toNat < S32.size a := fun i v137_r0 k0_hw4 k0_h1 => k0_hw4 k0_h1
def k0_off14 (arg7_r0 : BitVec 32) : Fin 4 → Nat :=
  let c2_i32_84_r0 : BitVec 32 := 2#32
  let v132_r0 : BitVec 32 := Scalar.remui arg7_r0 c2_i32_84_r0
  let c0_i32_121_r0 : BitVec 32 := 0#32
  let c0_i32_122_r0 : BitVec 32 := 0#32
  let c0_i32_123_r0 : BitVec 32 := 0#32
  ![v132_r0.toNat, 0, 0, 0]

def k0_chk5 (i : grid0.Coords) (arg7_r0 : BitVec 32) : Prop :=
  (∀ (k0_h1 : k0_cond1 i = 1#1), ∀ a, (k0_off14 arg7_r0) a + S1x1x100x16.size a ≤ S2x1x100x16.size a)
theorem k0_off14_inb : ∀ (i : grid0.Coords) (arg7_r0 : BitVec 32) (k0_hw5 : k0_chk5 i arg7_r0), ∀ (k0_h1 : k0_cond1 i = 1#1), ∀ a, (k0_off14 arg7_r0) a + S1x1x100x16.size a ≤ S2x1x100x16.size a := fun i arg7_r0 k0_hw5 k0_h1 => k0_hw5 k0_h1

def k0_off15 (k0_t2 : Fin k0_t2_loop.trips) : Fin 3 → Nat :=
  let c0_i32_120_r0 : BitVec 32 := 0#32
  let v197_r0 : Index := Scalar.indexCast c0_i32_120_r0
  let c0_i32_106_r0 : BitVec 32 := 0#32
  let c0_i32_87_r0 : BitVec 32 := 0#32
  let c1_i32_88_r0 : BitVec 32 := 1#32
  let arg10_r0 : BitVec 32 := Scf.iv c0_i32_87_r0 c1_i32_88_r0 k0_t2
  let c1_i32_105_r0 : BitVec 32 := 1#32
  let v173_r0 : BitVec 32 := Scalar.muli arg10_r0 c1_i32_105_r0
  let v174_r0 : BitVec 32 := Scalar.addi c0_i32_106_r0 v173_r0
  let v198_r0 : Index := Scalar.indexCast v174_r0
  let c0_r0 : Index := 0#32
  ![0, v198_r0.toNat, 0]
def k0_off16 (arg7_r0 : BitVec 32) : Fin 4 → Nat :=
  let c2_i32_105_r0 : BitVec 32 := 2#32
  let v173_r0 : BitVec 32 := Scalar.remui arg7_r0 c2_i32_105_r0
  let c0_i32_107_r0 : BitVec 32 := 0#32
  let c0_i32_108_r0 : BitVec 32 := 0#32
  let c0_i32_109_r0 : BitVec 32 := 0#32
  ![v173_r0.toNat, 0, 0, 0]
def k0_cond7 (i : grid0.Coords) (k0_t1 : Fin (k0_t1_loop i).trips) (arg9_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c17_i32_0 : BitVec 32 := 17#32
  let v6 : BitVec 1 := Scalar.cmpi .slt v3 c17_i32_0
  let c17_i32 : BitVec 32 := 17#32
  let v4 : BitVec 1 := Scalar.cmpi .slt v3 c17_i32
  let c20_i32 : BitVec 32 := 20#32
  let c19_i32 : BitVec 32 := 19#32
  let v5 : BitVec 32 := Scalar.select v4 c20_i32 c19_i32
  let v7 : BitVec 32 := Scalar.muli v3 v5
  let c19_i32_1 : BitVec 32 := 19#32
  let v8 : BitVec 32 := Scalar.muli v3 c19_i32_1
  let c17_i32_2 : BitVec 32 := 17#32
  let v9 : BitVec 32 := Scalar.addi v8 c17_i32_2
  let v10 : BitVec 32 := Scalar.select v6 v7 v9
  let v84_r0 : BitVec 32 := Scalar.addi arg9_r0 v10
  let true_65_r0 : BitVec 1 := 1#1
  let c1_i32_64_r0 : BitVec 32 := 1#32
  let v91_r0 : BitVec 32 := Scalar.addi arg9_r0 c1_i32_64_r0
  let v92_r0 : BitVec 32 := Scalar.select true_65_r0 v91_r0 arg9_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v144_r0 : BitVec 1 := Scalar.cmpi .ne v84_r0 v95_r0
  let c0_i32_29_r0 : BitVec 32 := 0#32
  let c1_i32_35_r0 : BitVec 32 := 1#32
  let arg4_r0 : BitVec 32 := Scf.iv c0_i32_29_r0 c1_i32_35_r0 k0_t1
  let c1_i32_57_r0 : BitVec 32 := 1#32
  let v80_r0 : BitVec 32 := Scalar.muli c1_i32_57_r0 v5
  let c1_i32_59_r0 : BitVec 32 := 1#32
  let v82_r0 : BitVec 32 := Scalar.subi v80_r0 c1_i32_59_r0
  let v83_r0 : BitVec 1 := Scalar.cmpi .eq arg4_r0 v82_r0
  let v145_r0 : BitVec 1 := Scalar.ori v144_r0 v83_r0
  let v146_r0 : BitVec 32 := Scalar.extui v145_r0
  let c0_i32_91_r0 : BitVec 32 := 0#32
  let v147_r0 : BitVec 1 := Scalar.cmpi .ne v146_r0 c0_i32_91_r0
  v147_r0

def k0_off17 (i : grid0.Coords) (arg9_r0 : BitVec 32) : Fin 3 → Nat :=
  let c1_i32_106_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c17_i32_0 : BitVec 32 := 17#32
  let v6 : BitVec 1 := Scalar.cmpi .slt v3 c17_i32_0
  let c17_i32 : BitVec 32 := 17#32
  let v4 : BitVec 1 := Scalar.cmpi .slt v3 c17_i32
  let c20_i32 : BitVec 32 := 20#32
  let c19_i32 : BitVec 32 := 19#32
  let v5 : BitVec 32 := Scalar.select v4 c20_i32 c19_i32
  let v7 : BitVec 32 := Scalar.muli v3 v5
  let c19_i32_1 : BitVec 32 := 19#32
  let v8 : BitVec 32 := Scalar.muli v3 c19_i32_1
  let c17_i32_2 : BitVec 32 := 17#32
  let v9 : BitVec 32 := Scalar.addi v8 c17_i32_2
  let v10 : BitVec 32 := Scalar.select v6 v7 v9
  let v84_r0 : BitVec 32 := Scalar.addi arg9_r0 v10
  let v174_r0 : BitVec 32 := Scalar.muli c1_i32_106_r0 v84_r0
  let c0_i32_110_r0 : BitVec 32 := 0#32
  let c0_i32_111_r0 : BitVec 32 := 0#32
  ![v174_r0.toNat, 0, 0]
def k0_off18 (arg7_r0 : BitVec 32) : Fin 1 → Nat :=
  let c2_i32_105_r0 : BitVec 32 := 2#32
  let v173_r0 : BitVec 32 := Scalar.remui arg7_r0 c2_i32_105_r0
  ![v173_r0.toNat]
def k0_off19 (arg8_r0 : BitVec 32) : Fin 4 → Nat :=
  let c2_i32_105_r0 : BitVec 32 := 2#32
  let v173_r0 : BitVec 32 := Scalar.remui arg8_r0 c2_i32_105_r0
  let c0_i32_107_r0 : BitVec 32 := 0#32
  let c0_i32_108_r0 : BitVec 32 := 0#32
  let c0_i32_109_r0 : BitVec 32 := 0#32
  ![v173_r0.toNat, 0, 0, 0]
def k0_cond9 (i : grid0.Coords) (k0_t1 : Fin (k0_t1_loop i).trips) (arg9_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c17_i32_0 : BitVec 32 := 17#32
  let v6 : BitVec 1 := Scalar.cmpi .slt v3 c17_i32_0
  let c17_i32 : BitVec 32 := 17#32
  let v4 : BitVec 1 := Scalar.cmpi .slt v3 c17_i32
  let c20_i32 : BitVec 32 := 20#32
  let c19_i32 : BitVec 32 := 19#32
  let v5 : BitVec 32 := Scalar.select v4 c20_i32 c19_i32
  let v7 : BitVec 32 := Scalar.muli v3 v5
  let c19_i32_1 : BitVec 32 := 19#32
  let v8 : BitVec 32 := Scalar.muli v3 c19_i32_1
  let c17_i32_2 : BitVec 32 := 17#32
  let v9 : BitVec 32 := Scalar.addi v8 c17_i32_2
  let v10 : BitVec 32 := Scalar.select v6 v7 v9
  let v84_r0 : BitVec 32 := Scalar.addi arg9_r0 v10
  let true_61_r0 : BitVec 1 := 1#1
  let c1_i32_60_r0 : BitVec 32 := 1#32
  let v85_r0 : BitVec 32 := Scalar.subi arg9_r0 c1_i32_60_r0
  let v86_r0 : BitVec 32 := Scalar.select true_61_r0 v85_r0 arg9_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v157_r0 : BitVec 1 := Scalar.cmpi .ne v84_r0 v90_r0
  let c0_i32_29_r0 : BitVec 32 := 0#32
  let c1_i32_35_r0 : BitVec 32 := 1#32
  let arg4_r0 : BitVec 32 := Scf.iv c0_i32_29_r0 c1_i32_35_r0 k0_t1
  let c0_i32_58_r0 : BitVec 32 := 0#32
  let v81_r0 : BitVec 1 := Scalar.cmpi .eq arg4_r0 c0_i32_58_r0
  let true_97_r0 : BitVec 1 := 1#1
  let v158_r0 : BitVec 1 := Scalar.xori v81_r0 true_97_r0
  let v159_r0 : BitVec 1 := Scalar.andi v157_r0 v158_r0
  let v160_r0 : BitVec 32 := Scalar.extui v159_r0
  let c0_i32_98_r0 : BitVec 32 := 0#32
  let v161_r0 : BitVec 1 := Scalar.cmpi .ne v160_r0 c0_i32_98_r0
  v161_r0

def k0_off20 (i : grid0.Coords) (arg9_r0 : BitVec 32) : Fin 3 → Nat :=
  let c1_i32_106_r0 : BitVec 32 := 1#32
  let true_61_r0 : BitVec 1 := 1#1
  let c1_i32_60_r0 : BitVec 32 := 1#32
  let v85_r0 : BitVec 32 := Scalar.subi arg9_r0 c1_i32_60_r0
  let v86_r0 : BitVec 32 := Scalar.select true_61_r0 v85_r0 arg9_r0
  let c_m1_i32_62_r0 : BitVec 32 := 4294967295#32
  let v87_r0 : BitVec 1 := Scalar.cmpi .eq v86_r0 c_m1_i32_62_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c17_i32 : BitVec 32 := 17#32
  let v4 : BitVec 1 := Scalar.cmpi .slt v3 c17_i32
  let c20_i32 : BitVec 32 := 20#32
  let c19_i32 : BitVec 32 := 19#32
  let v5 : BitVec 32 := Scalar.select v4 c20_i32 c19_i32
  let c1_i32_63_r0 : BitVec 32 := 1#32
  let v88_r0 : BitVec 32 := Scalar.subi v5 c1_i32_63_r0
  let v89_r0 : BitVec 32 := Scalar.select v87_r0 v88_r0 v86_r0
  let c17_i32_0 : BitVec 32 := 17#32
  let v6 : BitVec 1 := Scalar.cmpi .slt v3 c17_i32_0
  let v7 : BitVec 32 := Scalar.muli v3 v5
  let c19_i32_1 : BitVec 32 := 19#32
  let v8 : BitVec 32 := Scalar.muli v3 c19_i32_1
  let c17_i32_2 : BitVec 32 := 17#32
  let v9 : BitVec 32 := Scalar.addi v8 c17_i32_2
  let v10 : BitVec 32 := Scalar.select v6 v7 v9
  let v90_r0 : BitVec 32 := Scalar.addi v89_r0 v10
  let v174_r0 : BitVec 32 := Scalar.muli c1_i32_106_r0 v90_r0
  let c0_i32_110_r0 : BitVec 32 := 0#32
  let c0_i32_111_r0 : BitVec 32 := 0#32
  ![v174_r0.toNat, 0, 0]
def k0_off21 (arg8_r0 : BitVec 32) : Fin 1 → Nat :=
  let c2_i32_105_r0 : BitVec 32 := 2#32
  let v173_r0 : BitVec 32 := Scalar.remui arg8_r0 c2_i32_105_r0
  ![v173_r0.toNat]

def k0_chk1 (i : grid0.Coords) (k0_t1 : Fin (k0_t1_loop i).trips) (arg5_r0 : BitVec 32) (arg6_r0 : BitVec 32) (arg7_r0 : BitVec 32) (arg8_r0 : BitVec 32) (arg9_r0 : BitVec 32) : Prop :=
  (∀ (k0_h1 : k0_cond1 i = 1#1), ∀ (k0_h3 : k0_cond3 i k0_t1 arg9_r0 = 1#1), ∀ a, (k0_off4 arg5_r0) a + S1x1x100x32.size a ≤ S2x1x100x32.size a) ∧
  (∀ (k0_h1 : k0_cond1 i = 1#1), ∀ (k0_h3 : k0_cond3 i k0_t1 arg9_r0 = 1#1), ∀ a, (k0_off5 i arg9_r0) a + S1x100x32.size a ≤ S625x100x32.size a) ∧
  (∀ (k0_h1 : k0_cond1 i = 1#1), ∀ (k0_h3 : k0_cond3 i k0_t1 arg9_r0 = 1#1), ∀ a, (k0_off6 arg5_r0) a + S1.size a ≤ S2.size a) ∧
  (∀ (k0_h1 : k0_cond1 i = 1#1), ∀ (k0_h4 : k0_cond4 i k0_t1 arg9_r0 = 1#1), ∀ a, (k0_off7 arg6_r0) a + S1x1x100x32.size a ≤ S2x1x100x32.size a) ∧
  (∀ (k0_h1 : k0_cond1 i = 1#1), ∀ (k0_h4 : k0_cond4 i k0_t1 arg9_r0 = 1#1), ∀ a, (k0_off8 i arg9_r0) a + S1x100x32.size a ≤ S625x100x32.size a) ∧
  (∀ (k0_h1 : k0_cond1 i = 1#1), ∀ (k0_h4 : k0_cond4 i k0_t1 arg9_r0 = 1#1), ∀ a, (k0_off9 arg6_r0) a + S1.size a ≤ S2.size a) ∧
  (∀ (k0_h1 : k0_cond1 i = 1#1), ∀ (k0_h7 : k0_cond7 i k0_t1 arg9_r0 = 1#1), ∀ a, (k0_off16 arg7_r0) a + S1x1x100x16.size a ≤ S2x1x100x16.size a) ∧
  (∀ (k0_h1 : k0_cond1 i = 1#1), ∀ (k0_h7 : k0_cond7 i k0_t1 arg9_r0 = 1#1), ∀ a, (k0_off17 i arg9_r0) a + S1x100x16.size a ≤ S625x100x16.size a) ∧
  (∀ (k0_h1 : k0_cond1 i = 1#1), ∀ (k0_h7 : k0_cond7 i k0_t1 arg9_r0 = 1#1), ∀ a, (k0_off18 arg7_r0) a + S1.size a ≤ S2.size a) ∧
  (∀ (k0_h1 : k0_cond1 i = 1#1), ∀ (k0_h9 : k0_cond9 i k0_t1 arg9_r0 = 1#1), ∀ a, (k0_off19 arg8_r0) a + S1x1x100x16.size a ≤ S2x1x100x16.size a) ∧
  (∀ (k0_h1 : k0_cond1 i = 1#1), ∀ (k0_h9 : k0_cond9 i k0_t1 arg9_r0 = 1#1), ∀ a, (k0_off20 i arg9_r0) a + S1x100x16.size a ≤ S625x100x16.size a) ∧
  (∀ (k0_h1 : k0_cond1 i = 1#1), ∀ (k0_h9 : k0_cond9 i k0_t1 arg9_r0 = 1#1), ∀ a, (k0_off21 arg8_r0) a + S1.size a ≤ S2.size a)
theorem k0_off4_inb : ∀ (i : grid0.Coords) (k0_t1 : Fin (k0_t1_loop i).trips) (arg5_r0 : BitVec 32) (arg6_r0 : BitVec 32) (arg7_r0 : BitVec 32) (arg8_r0 : BitVec 32) (arg9_r0 : BitVec 32) (k0_hw1 : k0_chk1 i k0_t1 arg5_r0 arg6_r0 arg7_r0 arg8_r0 arg9_r0), ∀ (k0_h1 : k0_cond1 i = 1#1), ∀ (k0_h3 : k0_cond3 i k0_t1 arg9_r0 = 1#1), ∀ a, (k0_off4 arg5_r0) a + S1x1x100x32.size a ≤ S2x1x100x32.size a := fun i k0_t1 arg5_r0 arg6_r0 arg7_r0 arg8_r0 arg9_r0 k0_hw1 k0_h1 k0_h3 => k0_hw1.1 k0_h1 k0_h3
theorem k0_off5_inb : ∀ (i : grid0.Coords) (k0_t1 : Fin (k0_t1_loop i).trips) (arg5_r0 : BitVec 32) (arg6_r0 : BitVec 32) (arg7_r0 : BitVec 32) (arg8_r0 : BitVec 32) (arg9_r0 : BitVec 32) (k0_hw1 : k0_chk1 i k0_t1 arg5_r0 arg6_r0 arg7_r0 arg8_r0 arg9_r0), ∀ (k0_h1 : k0_cond1 i = 1#1), ∀ (k0_h3 : k0_cond3 i k0_t1 arg9_r0 = 1#1), ∀ a, (k0_off5 i arg9_r0) a + S1x100x32.size a ≤ S625x100x32.size a := fun i k0_t1 arg5_r0 arg6_r0 arg7_r0 arg8_r0 arg9_r0 k0_hw1 k0_h1 k0_h3 => k0_hw1.2.1 k0_h1 k0_h3
theorem k0_off6_inb : ∀ (i : grid0.Coords) (k0_t1 : Fin (k0_t1_loop i).trips) (arg5_r0 : BitVec 32) (arg6_r0 : BitVec 32) (arg7_r0 : BitVec 32) (arg8_r0 : BitVec 32) (arg9_r0 : BitVec 32) (k0_hw1 : k0_chk1 i k0_t1 arg5_r0 arg6_r0 arg7_r0 arg8_r0 arg9_r0), ∀ (k0_h1 : k0_cond1 i = 1#1), ∀ (k0_h3 : k0_cond3 i k0_t1 arg9_r0 = 1#1), ∀ a, (k0_off6 arg5_r0) a + S1.size a ≤ S2.size a := fun i k0_t1 arg5_r0 arg6_r0 arg7_r0 arg8_r0 arg9_r0 k0_hw1 k0_h1 k0_h3 => k0_hw1.2.2.1 k0_h1 k0_h3
theorem k0_off7_inb : ∀ (i : grid0.Coords) (k0_t1 : Fin (k0_t1_loop i).trips) (arg5_r0 : BitVec 32) (arg6_r0 : BitVec 32) (arg7_r0 : BitVec 32) (arg8_r0 : BitVec 32) (arg9_r0 : BitVec 32) (k0_hw1 : k0_chk1 i k0_t1 arg5_r0 arg6_r0 arg7_r0 arg8_r0 arg9_r0), ∀ (k0_h1 : k0_cond1 i = 1#1), ∀ (k0_h4 : k0_cond4 i k0_t1 arg9_r0 = 1#1), ∀ a, (k0_off7 arg6_r0) a + S1x1x100x32.size a ≤ S2x1x100x32.size a := fun i k0_t1 arg5_r0 arg6_r0 arg7_r0 arg8_r0 arg9_r0 k0_hw1 k0_h1 k0_h4 => k0_hw1.2.2.2.1 k0_h1 k0_h4
theorem k0_off8_inb : ∀ (i : grid0.Coords) (k0_t1 : Fin (k0_t1_loop i).trips) (arg5_r0 : BitVec 32) (arg6_r0 : BitVec 32) (arg7_r0 : BitVec 32) (arg8_r0 : BitVec 32) (arg9_r0 : BitVec 32) (k0_hw1 : k0_chk1 i k0_t1 arg5_r0 arg6_r0 arg7_r0 arg8_r0 arg9_r0), ∀ (k0_h1 : k0_cond1 i = 1#1), ∀ (k0_h4 : k0_cond4 i k0_t1 arg9_r0 = 1#1), ∀ a, (k0_off8 i arg9_r0) a + S1x100x32.size a ≤ S625x100x32.size a := fun i k0_t1 arg5_r0 arg6_r0 arg7_r0 arg8_r0 arg9_r0 k0_hw1 k0_h1 k0_h4 => k0_hw1.2.2.2.2.1 k0_h1 k0_h4
theorem k0_off9_inb : ∀ (i : grid0.Coords) (k0_t1 : Fin (k0_t1_loop i).trips) (arg5_r0 : BitVec 32) (arg6_r0 : BitVec 32) (arg7_r0 : BitVec 32) (arg8_r0 : BitVec 32) (arg9_r0 : BitVec 32) (k0_hw1 : k0_chk1 i k0_t1 arg5_r0 arg6_r0 arg7_r0 arg8_r0 arg9_r0), ∀ (k0_h1 : k0_cond1 i = 1#1), ∀ (k0_h4 : k0_cond4 i k0_t1 arg9_r0 = 1#1), ∀ a, (k0_off9 arg6_r0) a + S1.size a ≤ S2.size a := fun i k0_t1 arg5_r0 arg6_r0 arg7_r0 arg8_r0 arg9_r0 k0_hw1 k0_h1 k0_h4 => k0_hw1.2.2.2.2.2.1 k0_h1 k0_h4
theorem k0_off16_inb : ∀ (i : grid0.Coords) (k0_t1 : Fin (k0_t1_loop i).trips) (arg5_r0 : BitVec 32) (arg6_r0 : BitVec 32) (arg7_r0 : BitVec 32) (arg8_r0 : BitVec 32) (arg9_r0 : BitVec 32) (k0_hw1 : k0_chk1 i k0_t1 arg5_r0 arg6_r0 arg7_r0 arg8_r0 arg9_r0), ∀ (k0_h1 : k0_cond1 i = 1#1), ∀ (k0_h7 : k0_cond7 i k0_t1 arg9_r0 = 1#1), ∀ a, (k0_off16 arg7_r0) a + S1x1x100x16.size a ≤ S2x1x100x16.size a := fun i k0_t1 arg5_r0 arg6_r0 arg7_r0 arg8_r0 arg9_r0 k0_hw1 k0_h1 k0_h7 => k0_hw1.2.2.2.2.2.2.1 k0_h1 k0_h7
theorem k0_off17_inb : ∀ (i : grid0.Coords) (k0_t1 : Fin (k0_t1_loop i).trips) (arg5_r0 : BitVec 32) (arg6_r0 : BitVec 32) (arg7_r0 : BitVec 32) (arg8_r0 : BitVec 32) (arg9_r0 : BitVec 32) (k0_hw1 : k0_chk1 i k0_t1 arg5_r0 arg6_r0 arg7_r0 arg8_r0 arg9_r0), ∀ (k0_h1 : k0_cond1 i = 1#1), ∀ (k0_h7 : k0_cond7 i k0_t1 arg9_r0 = 1#1), ∀ a, (k0_off17 i arg9_r0) a + S1x100x16.size a ≤ S625x100x16.size a := fun i k0_t1 arg5_r0 arg6_r0 arg7_r0 arg8_r0 arg9_r0 k0_hw1 k0_h1 k0_h7 => k0_hw1.2.2.2.2.2.2.2.1 k0_h1 k0_h7
theorem k0_off18_inb : ∀ (i : grid0.Coords) (k0_t1 : Fin (k0_t1_loop i).trips) (arg5_r0 : BitVec 32) (arg6_r0 : BitVec 32) (arg7_r0 : BitVec 32) (arg8_r0 : BitVec 32) (arg9_r0 : BitVec 32) (k0_hw1 : k0_chk1 i k0_t1 arg5_r0 arg6_r0 arg7_r0 arg8_r0 arg9_r0), ∀ (k0_h1 : k0_cond1 i = 1#1), ∀ (k0_h7 : k0_cond7 i k0_t1 arg9_r0 = 1#1), ∀ a, (k0_off18 arg7_r0) a + S1.size a ≤ S2.size a := fun i k0_t1 arg5_r0 arg6_r0 arg7_r0 arg8_r0 arg9_r0 k0_hw1 k0_h1 k0_h7 => k0_hw1.2.2.2.2.2.2.2.2.1 k0_h1 k0_h7
theorem k0_off19_inb : ∀ (i : grid0.Coords) (k0_t1 : Fin (k0_t1_loop i).trips) (arg5_r0 : BitVec 32) (arg6_r0 : BitVec 32) (arg7_r0 : BitVec 32) (arg8_r0 : BitVec 32) (arg9_r0 : BitVec 32) (k0_hw1 : k0_chk1 i k0_t1 arg5_r0 arg6_r0 arg7_r0 arg8_r0 arg9_r0), ∀ (k0_h1 : k0_cond1 i = 1#1), ∀ (k0_h9 : k0_cond9 i k0_t1 arg9_r0 = 1#1), ∀ a, (k0_off19 arg8_r0) a + S1x1x100x16.size a ≤ S2x1x100x16.size a := fun i k0_t1 arg5_r0 arg6_r0 arg7_r0 arg8_r0 arg9_r0 k0_hw1 k0_h1 k0_h9 => k0_hw1.2.2.2.2.2.2.2.2.2.1 k0_h1 k0_h9
theorem k0_off20_inb : ∀ (i : grid0.Coords) (k0_t1 : Fin (k0_t1_loop i).trips) (arg5_r0 : BitVec 32) (arg6_r0 : BitVec 32) (arg7_r0 : BitVec 32) (arg8_r0 : BitVec 32) (arg9_r0 : BitVec 32) (k0_hw1 : k0_chk1 i k0_t1 arg5_r0 arg6_r0 arg7_r0 arg8_r0 arg9_r0), ∀ (k0_h1 : k0_cond1 i = 1#1), ∀ (k0_h9 : k0_cond9 i k0_t1 arg9_r0 = 1#1), ∀ a, (k0_off20 i arg9_r0) a + S1x100x16.size a ≤ S625x100x16.size a := fun i k0_t1 arg5_r0 arg6_r0 arg7_r0 arg8_r0 arg9_r0 k0_hw1 k0_h1 k0_h9 => k0_hw1.2.2.2.2.2.2.2.2.2.2.1 k0_h1 k0_h9
theorem k0_off21_inb : ∀ (i : grid0.Coords) (k0_t1 : Fin (k0_t1_loop i).trips) (arg5_r0 : BitVec 32) (arg6_r0 : BitVec 32) (arg7_r0 : BitVec 32) (arg8_r0 : BitVec 32) (arg9_r0 : BitVec 32) (k0_hw1 : k0_chk1 i k0_t1 arg5_r0 arg6_r0 arg7_r0 arg8_r0 arg9_r0), ∀ (k0_h1 : k0_cond1 i = 1#1), ∀ (k0_h9 : k0_cond9 i k0_t1 arg9_r0 = 1#1), ∀ a, (k0_off21 arg8_r0) a + S1.size a ≤ S2.size a := fun i k0_t1 arg5_r0 arg6_r0 arg7_r0 arg8_r0 arg9_r0 k0_hw1 k0_h1 k0_h9 => k0_hw1.2.2.2.2.2.2.2.2.2.2.2 k0_h1 k0_h9

@[reducible] def k0_t3_loop (i : grid0.Coords) : Scf.Loop 32 :=
  let c0_i32_29_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c17_i32 : BitVec 32 := 17#32
  let v4 : BitVec 1 := Scalar.cmpi .slt v3 c17_i32
  let c20_i32 : BitVec 32 := 20#32
  let c19_i32 : BitVec 32 := 19#32
  let v5 : BitVec 32 := Scalar.select v4 c20_i32 c19_i32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let v43_r0 : BitVec 32 := Scalar.addi c0_i32_29_r0 v42_r0
  let c1_i32_36_r0 : BitVec 32 := 1#32
  ⟨v46_r0, v43_r0, c1_i32_36_r0⟩
def k0_off22 (arg5_r0 : BitVec 32) : Fin 4 → Nat :=
  let c2_i32_105_r0 : BitVec 32 := 2#32
  let v173_r0 : BitVec 32 := Scalar.remui arg5_r0 c2_i32_105_r0
  let c0_i32_107_r0 : BitVec 32 := 0#32
  let c0_i32_108_r0 : BitVec 32 := 0#32
  let c0_i32_109_r0 : BitVec 32 := 0#32
  ![v173_r0.toNat, 0, 0, 0]
def k0_cond10 (i : grid0.Coords) (k0_t3 : Fin (k0_t3_loop i).trips) (arg9_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c17_i32_0 : BitVec 32 := 17#32
  let v6 : BitVec 1 := Scalar.cmpi .slt v3 c17_i32_0
  let c17_i32 : BitVec 32 := 17#32
  let v4 : BitVec 1 := Scalar.cmpi .slt v3 c17_i32
  let c20_i32 : BitVec 32 := 20#32
  let c19_i32 : BitVec 32 := 19#32
  let v5 : BitVec 32 := Scalar.select v4 c20_i32 c19_i32
  let v7 : BitVec 32 := Scalar.muli v3 v5
  let c19_i32_1 : BitVec 32 := 19#32
  let v8 : BitVec 32 := Scalar.muli v3 c19_i32_1
  let c17_i32_2 : BitVec 32 := 17#32
  let v9 : BitVec 32 := Scalar.addi v8 c17_i32_2
  let v10 : BitVec 32 := Scalar.select v6 v7 v9
  let v84_r0 : BitVec 32 := Scalar.addi arg9_r0 v10
  let true_65_r0 : BitVec 1 := 1#1
  let c1_i32_64_r0 : BitVec 32 := 1#32
  let v91_r0 : BitVec 32 := Scalar.addi arg9_r0 c1_i32_64_r0
  let v92_r0 : BitVec 32 := Scalar.select true_65_r0 v91_r0 arg9_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v101_r0 : BitVec 1 := Scalar.cmpi .ne v84_r0 v95_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg4_r0 : BitVec 32 := Scf.iv v46_r0 c1_i32_36_r0 k0_t3
  let c1_i32_57_r0 : BitVec 32 := 1#32
  let v80_r0 : BitVec 32 := Scalar.muli c1_i32_57_r0 v5
  let c2_i32_r0 : BitVec 32 := 2#32
  let v102_r0 : BitVec 32 := Scalar.subi v80_r0 c2_i32_r0
  let c1_i32_70_r0 : BitVec 32 := 1#32
  let v103_r0 : BitVec 32 := Scalar.addi v102_r0 c1_i32_70_r0
  let v104_r0 : BitVec 1 := Scalar.cmpi .sge arg4_r0 v103_r0
  let true_71_r0 : BitVec 1 := 1#1
  let v105_r0 : BitVec 1 := Scalar.xori v104_r0 true_71_r0
  let v106_r0 : BitVec 1 := Scalar.andi v101_r0 v105_r0
  let true_72_r0 : BitVec 1 := 1#1
  let v107_r0 : BitVec 1 := Scalar.andi v106_r0 true_72_r0
  let v108_r0 : BitVec 32 := Scalar.extui v107_r0
  let c0_i32_73_r0 : BitVec 32 := 0#32
  let v109_r0 : BitVec 1 := Scalar.cmpi .ne v108_r0 c0_i32_73_r0
  v109_r0

def k0_off23 (i : grid0.Coords) (arg9_r0 : BitVec 32) : Fin 3 → Nat :=
  let c1_i32_106_r0 : BitVec 32 := 1#32
  let true_65_r0 : BitVec 1 := 1#1
  let c1_i32_64_r0 : BitVec 32 := 1#32
  let v91_r0 : BitVec 32 := Scalar.addi arg9_r0 c1_i32_64_r0
  let v92_r0 : BitVec 32 := Scalar.select true_65_r0 v91_r0 arg9_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c17_i32 : BitVec 32 := 17#32
  let v4 : BitVec 1 := Scalar.cmpi .slt v3 c17_i32
  let c20_i32 : BitVec 32 := 20#32
  let c19_i32 : BitVec 32 := 19#32
  let v5 : BitVec 32 := Scalar.select v4 c20_i32 c19_i32
  let v93_r0 : BitVec 1 := Scalar.cmpi .eq v92_r0 v5
  let c0_i32_66_r0 : BitVec 32 := 0#32
  let v94_r0 : BitVec 32 := Scalar.select v93_r0 c0_i32_66_r0 v92_r0
  let c17_i32_0 : BitVec 32 := 17#32
  let v6 : BitVec 1 := Scalar.cmpi .slt v3 c17_i32_0
  let v7 : BitVec 32 := Scalar.muli v3 v5
  let c19_i32_1 : BitVec 32 := 19#32
  let v8 : BitVec 32 := Scalar.muli v3 c19_i32_1
  let c17_i32_2 : BitVec 32 := 17#32
  let v9 : BitVec 32 := Scalar.addi v8 c17_i32_2
  let v10 : BitVec 32 := Scalar.select v6 v7 v9
  let v95_r0 : BitVec 32 := Scalar.addi v94_r0 v10
  let v174_r0 : BitVec 32 := Scalar.muli c1_i32_106_r0 v95_r0
  let c0_i32_110_r0 : BitVec 32 := 0#32
  let c0_i32_111_r0 : BitVec 32 := 0#32
  ![v174_r0.toNat, 0, 0]
def k0_off24 (arg5_r0 : BitVec 32) : Fin 1 → Nat :=
  let c2_i32_105_r0 : BitVec 32 := 2#32
  let v173_r0 : BitVec 32 := Scalar.remui arg5_r0 c2_i32_105_r0
  ![v173_r0.toNat]
def k0_off25 (arg6_r0 : BitVec 32) : Fin 4 → Nat :=
  let c2_i32_106_r0 : BitVec 32 := 2#32
  let v174_r0 : BitVec 32 := Scalar.remui arg6_r0 c2_i32_106_r0
  let c0_i32_107_r0 : BitVec 32 := 0#32
  let c0_i32_108_r0 : BitVec 32 := 0#32
  let c0_i32_109_r0 : BitVec 32 := 0#32
  ![v174_r0.toNat, 0, 0, 0]
def k0_cond11 (i : grid0.Coords) (k0_t3 : Fin (k0_t3_loop i).trips) (arg9_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c17_i32_0 : BitVec 32 := 17#32
  let v6 : BitVec 1 := Scalar.cmpi .slt v3 c17_i32_0
  let c17_i32 : BitVec 32 := 17#32
  let v4 : BitVec 1 := Scalar.cmpi .slt v3 c17_i32
  let c20_i32 : BitVec 32 := 20#32
  let c19_i32 : BitVec 32 := 19#32
  let v5 : BitVec 32 := Scalar.select v4 c20_i32 c19_i32
  let v7 : BitVec 32 := Scalar.muli v3 v5
  let c19_i32_1 : BitVec 32 := 19#32
  let v8 : BitVec 32 := Scalar.muli v3 c19_i32_1
  let c17_i32_2 : BitVec 32 := 17#32
  let v9 : BitVec 32 := Scalar.addi v8 c17_i32_2
  let v10 : BitVec 32 := Scalar.select v6 v7 v9
  let v84_r0 : BitVec 32 := Scalar.addi arg9_r0 v10
  let true_61_r0 : BitVec 1 := 1#1
  let c1_i32_60_r0 : BitVec 32 := 1#32
  let v85_r0 : BitVec 32 := Scalar.subi arg9_r0 c1_i32_60_r0
  let v86_r0 : BitVec 32 := Scalar.select true_61_r0 v85_r0 arg9_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg4_r0 : BitVec 32 := Scf.iv v46_r0 c1_i32_36_r0 k0_t3
  let c0_i32_58_r0 : BitVec 32 := 0#32
  let v81_r0 : BitVec 1 := Scalar.cmpi .eq arg4_r0 c0_i32_58_r0
  let v120_r0 : BitVec 1 := Scalar.ori v119_r0 v81_r0
  let c0_i32_79_r0 : BitVec 32 := 0#32
  let v121_r0 : BitVec 1 := Scalar.cmpi .sge arg4_r0 c0_i32_79_r0
  let v122_r0 : BitVec 1 := Scalar.andi v120_r0 v121_r0
  let v123_r0 : BitVec 32 := Scalar.extui v122_r0
  let c0_i32_80_r0 : BitVec 32 := 0#32
  let v124_r0 : BitVec 1 := Scalar.cmpi .ne v123_r0 c0_i32_80_r0
  v124_r0

def k0_off26 (i : grid0.Coords) (arg9_r0 : BitVec 32) : Fin 3 → Nat :=
  let c1_i32_105_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c17_i32_0 : BitVec 32 := 17#32
  let v6 : BitVec 1 := Scalar.cmpi .slt v3 c17_i32_0
  let c17_i32 : BitVec 32 := 17#32
  let v4 : BitVec 1 := Scalar.cmpi .slt v3 c17_i32
  let c20_i32 : BitVec 32 := 20#32
  let c19_i32 : BitVec 32 := 19#32
  let v5 : BitVec 32 := Scalar.select v4 c20_i32 c19_i32
  let v7 : BitVec 32 := Scalar.muli v3 v5
  let c19_i32_1 : BitVec 32 := 19#32
  let v8 : BitVec 32 := Scalar.muli v3 c19_i32_1
  let c17_i32_2 : BitVec 32 := 17#32
  let v9 : BitVec 32 := Scalar.addi v8 c17_i32_2
  let v10 : BitVec 32 := Scalar.select v6 v7 v9
  let v84_r0 : BitVec 32 := Scalar.addi arg9_r0 v10
  let v173_r0 : BitVec 32 := Scalar.muli c1_i32_105_r0 v84_r0
  let c0_i32_110_r0 : BitVec 32 := 0#32
  let c0_i32_111_r0 : BitVec 32 := 0#32
  ![v173_r0.toNat, 0, 0]
def k0_off27 (arg6_r0 : BitVec 32) : Fin 1 → Nat :=
  let c2_i32_106_r0 : BitVec 32 := 2#32
  let v174_r0 : BitVec 32 := Scalar.remui arg6_r0 c2_i32_106_r0
  ![v174_r0.toNat]
@[reducible] def k0_t4_loop : Scf.Loop 32 :=
  let c0_i32_87_r0 : BitVec 32 := 0#32
  let c100_i32_r0 : BitVec 32 := 100#32
  let v138_r0 : BitVec 32 := Scalar.addi c0_i32_87_r0 c100_i32_r0
  let c1_i32_88_r0 : BitVec 32 := 1#32
  ⟨c0_i32_87_r0, v138_r0, c1_i32_88_r0⟩
def k0_off28 (arg6_r0 : BitVec 32) : Fin 4 → Nat :=
  let c2_i32_83_r0 : BitVec 32 := 2#32
  let v131_r0 : BitVec 32 := Scalar.remui arg6_r0 c2_i32_83_r0
  let c0_i32_108_r0 : BitVec 32 := 0#32
  let c0_i32_109_r0 : BitVec 32 := 0#32
  let c0_i32_110_r0 : BitVec 32 := 0#32
  ![v131_r0.toNat, 0, 0, 0]

def k0_off29 (k0_t4 : Fin k0_t4_loop.trips) : Fin 3 → Nat :=
  let c0_i32_107_r0 : BitVec 32 := 0#32
  let c0_i32_106_r0 : BitVec 32 := 0#32
  let c0_i32_87_r0 : BitVec 32 := 0#32
  let c1_i32_88_r0 : BitVec 32 := 1#32
  let arg10_r0 : BitVec 32 := Scf.iv c0_i32_87_r0 c1_i32_88_r0 k0_t4
  let c1_i32_105_r0 : BitVec 32 := 1#32
  let v173_r0 : BitVec 32 := Scalar.muli arg10_r0 c1_i32_105_r0
  let v174_r0 : BitVec 32 := Scalar.addi c0_i32_106_r0 v173_r0
  let c0_i32_111_r0 : BitVec 32 := 0#32
  ![0, v174_r0.toNat, 0]

def k0_chk8 (i : grid0.Coords) (k0_t3 : Fin (k0_t3_loop i).trips) (v135_r0 : IVec S16 32) : Prop :=
  (∀ (k0_h1 : k0_cond1 i = 1#1), ∀ a x, ((![v135_r0] : Fin 1 → IVec S16 32) a x).toNat < S32.size a)
theorem k0_idx3_inb : ∀ (i : grid0.Coords) (k0_t3 : Fin (k0_t3_loop i).trips) (v135_r0 : IVec S16 32) (k0_hw8 : k0_chk8 i k0_t3 v135_r0), ∀ (k0_h1 : k0_cond1 i = 1#1), ∀ a x, ((![v135_r0] : Fin 1 → IVec S16 32) a x).toNat < S32.size a := fun i k0_t3 v135_r0 k0_hw8 k0_h1 => k0_hw8 k0_h1
def k0_off30 (arg6_r0 : BitVec 32) : Fin 4 → Nat :=
  let c2_i32_83_r0 : BitVec 32 := 2#32
  let v131_r0 : BitVec 32 := Scalar.remui arg6_r0 c2_i32_83_r0
  let c0_i32_113_r0 : BitVec 32 := 0#32
  let c0_i32_114_r0 : BitVec 32 := 0#32
  let c0_i32_115_r0 : BitVec 32 := 0#32
  ![v131_r0.toNat, 0, 0, 0]

def k0_chk7 (i : grid0.Coords) (k0_t3 : Fin (k0_t3_loop i).trips) (arg6_r0 : BitVec 32) : Prop :=
  (∀ (k0_h1 : k0_cond1 i = 1#1), ∀ a, (k0_off28 arg6_r0) a + S1x1x100x32.size a ≤ S2x1x100x32.size a) ∧
  (∀ (k0_h1 : k0_cond1 i = 1#1), ∀ a, (k0_off30 arg6_r0) a + S1x1x100x32.size a ≤ S2x1x100x32.size a)
theorem k0_off28_inb : ∀ (i : grid0.Coords) (k0_t3 : Fin (k0_t3_loop i).trips) (arg6_r0 : BitVec 32) (k0_hw7 : k0_chk7 i k0_t3 arg6_r0), ∀ (k0_h1 : k0_cond1 i = 1#1), ∀ a, (k0_off28 arg6_r0) a + S1x1x100x32.size a ≤ S2x1x100x32.size a := fun i k0_t3 arg6_r0 k0_hw7 k0_h1 => k0_hw7.1 k0_h1
theorem k0_off30_inb : ∀ (i : grid0.Coords) (k0_t3 : Fin (k0_t3_loop i).trips) (arg6_r0 : BitVec 32) (k0_hw7 : k0_chk7 i k0_t3 arg6_r0), ∀ (k0_h1 : k0_cond1 i = 1#1), ∀ a, (k0_off30 arg6_r0) a + S1x1x100x32.size a ≤ S2x1x100x32.size a := fun i k0_t3 arg6_r0 k0_hw7 k0_h1 => k0_hw7.2 k0_h1

def k0_off31 (k0_t4 : Fin k0_t4_loop.trips) : Fin 3 → Nat :=
  let c0_i32_112_r0 : BitVec 32 := 0#32
  let c0_i32_106_r0 : BitVec 32 := 0#32
  let c0_i32_87_r0 : BitVec 32 := 0#32
  let c1_i32_88_r0 : BitVec 32 := 1#32
  let arg10_r0 : BitVec 32 := Scf.iv c0_i32_87_r0 c1_i32_88_r0 k0_t4
  let c1_i32_105_r0 : BitVec 32 := 1#32
  let v173_r0 : BitVec 32 := Scalar.muli arg10_r0 c1_i32_105_r0
  let v174_r0 : BitVec 32 := Scalar.addi c0_i32_106_r0 v173_r0
  let c0_i32_116_r0 : BitVec 32 := 0#32
  ![0, v174_r0.toNat, 0]

def k0_chk9 (i : grid0.Coords) (k0_t3 : Fin (k0_t3_loop i).trips) (v137_r0 : IVec S16 32) : Prop :=
  (∀ (k0_h1 : k0_cond1 i = 1#1), ∀ a x, ((![v137_r0] : Fin 1 → IVec S16 32) a x).toNat < S32.size a)
theorem k0_idx4_inb : ∀ (i : grid0.Coords) (k0_t3 : Fin (k0_t3_loop i).trips) (v137_r0 : IVec S16 32) (k0_hw9 : k0_chk9 i k0_t3 v137_r0), ∀ (k0_h1 : k0_cond1 i = 1#1), ∀ a x, ((![v137_r0] : Fin 1 → IVec S16 32) a x).toNat < S32.size a := fun i k0_t3 v137_r0 k0_hw9 k0_h1 => k0_hw9 k0_h1
def k0_off32 (arg7_r0 : BitVec 32) : Fin 4 → Nat :=
  let c2_i32_84_r0 : BitVec 32 := 2#32
  let v132_r0 : BitVec 32 := Scalar.remui arg7_r0 c2_i32_84_r0
  let c0_i32_121_r0 : BitVec 32 := 0#32
  let c0_i32_122_r0 : BitVec 32 := 0#32
  let c0_i32_123_r0 : BitVec 32 := 0#32
  ![v132_r0.toNat, 0, 0, 0]

def k0_chk10 (i : grid0.Coords) (k0_t3 : Fin (k0_t3_loop i).trips) (arg7_r0 : BitVec 32) : Prop :=
  (∀ (k0_h1 : k0_cond1 i = 1#1), ∀ a, (k0_off32 arg7_r0) a + S1x1x100x16.size a ≤ S2x1x100x16.size a)
theorem k0_off32_inb : ∀ (i : grid0.Coords) (k0_t3 : Fin (k0_t3_loop i).trips) (arg7_r0 : BitVec 32) (k0_hw10 : k0_chk10 i k0_t3 arg7_r0), ∀ (k0_h1 : k0_cond1 i = 1#1), ∀ a, (k0_off32 arg7_r0) a + S1x1x100x16.size a ≤ S2x1x100x16.size a := fun i k0_t3 arg7_r0 k0_hw10 k0_h1 => k0_hw10 k0_h1

def k0_off33 (k0_t4 : Fin k0_t4_loop.trips) : Fin 3 → Nat :=
  let c0_i32_120_r0 : BitVec 32 := 0#32
  let v197_r0 : Index := Scalar.indexCast c0_i32_120_r0
  let c0_i32_106_r0 : BitVec 32 := 0#32
  let c0_i32_87_r0 : BitVec 32 := 0#32
  let c1_i32_88_r0 : BitVec 32 := 1#32
  let arg10_r0 : BitVec 32 := Scf.iv c0_i32_87_r0 c1_i32_88_r0 k0_t4
  let c1_i32_105_r0 : BitVec 32 := 1#32
  let v173_r0 : BitVec 32 := Scalar.muli arg10_r0 c1_i32_105_r0
  let v174_r0 : BitVec 32 := Scalar.addi c0_i32_106_r0 v173_r0
  let v198_r0 : Index := Scalar.indexCast v174_r0
  let c0_r0 : Index := 0#32
  ![0, v198_r0.toNat, 0]
def k0_off34 (arg7_r0 : BitVec 32) : Fin 4 → Nat :=
  let c2_i32_105_r0 : BitVec 32 := 2#32
  let v173_r0 : BitVec 32 := Scalar.remui arg7_r0 c2_i32_105_r0
  let c0_i32_107_r0 : BitVec 32 := 0#32
  let c0_i32_108_r0 : BitVec 32 := 0#32
  let c0_i32_109_r0 : BitVec 32 := 0#32
  ![v173_r0.toNat, 0, 0, 0]
def k0_cond14 (i : grid0.Coords) (k0_t3 : Fin (k0_t3_loop i).trips) (arg9_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c17_i32_0 : BitVec 32 := 17#32
  let v6 : BitVec 1 := Scalar.cmpi .slt v3 c17_i32_0
  let c17_i32 : BitVec 32 := 17#32
  let v4 : BitVec 1 := Scalar.cmpi .slt v3 c17_i32
  let c20_i32 : BitVec 32 := 20#32
  let c19_i32 : BitVec 32 := 19#32
  let v5 : BitVec 32 := Scalar.select v4 c20_i32 c19_i32
  let v7 : BitVec 32 := Scalar.muli v3 v5
  let c19_i32_1 : BitVec 32 := 19#32
  let v8 : BitVec 32 := Scalar.muli v3 c19_i32_1
  let c17_i32_2 : BitVec 32 := 17#32
  let v9 : BitVec 32 := Scalar.addi v8 c17_i32_2
  let v10 : BitVec 32 := Scalar.select v6 v7 v9
  let v84_r0 : BitVec 32 := Scalar.addi arg9_r0 v10
  let true_65_r0 : BitVec 1 := 1#1
  let c1_i32_64_r0 : BitVec 32 := 1#32
  let v91_r0 : BitVec 32 := Scalar.addi arg9_r0 c1_i32_64_r0
  let v92_r0 : BitVec 32 := Scalar.select true_65_r0 v91_r0 arg9_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v144_r0 : BitVec 1 := Scalar.cmpi .ne v84_r0 v95_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg4_r0 : BitVec 32 := Scf.iv v46_r0 c1_i32_36_r0 k0_t3
  let c1_i32_57_r0 : BitVec 32 := 1#32
  let v80_r0 : BitVec 32 := Scalar.muli c1_i32_57_r0 v5
  let c1_i32_59_r0 : BitVec 32 := 1#32
  let v82_r0 : BitVec 32 := Scalar.subi v80_r0 c1_i32_59_r0
  let v83_r0 : BitVec 1 := Scalar.cmpi .eq arg4_r0 v82_r0
  let v145_r0 : BitVec 1 := Scalar.ori v144_r0 v83_r0
  let v146_r0 : BitVec 32 := Scalar.extui v145_r0
  let c0_i32_91_r0 : BitVec 32 := 0#32
  let v147_r0 : BitVec 1 := Scalar.cmpi .ne v146_r0 c0_i32_91_r0
  v147_r0

def k0_off35 (i : grid0.Coords) (arg9_r0 : BitVec 32) : Fin 3 → Nat :=
  let c1_i32_106_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c17_i32_0 : BitVec 32 := 17#32
  let v6 : BitVec 1 := Scalar.cmpi .slt v3 c17_i32_0
  let c17_i32 : BitVec 32 := 17#32
  let v4 : BitVec 1 := Scalar.cmpi .slt v3 c17_i32
  let c20_i32 : BitVec 32 := 20#32
  let c19_i32 : BitVec 32 := 19#32
  let v5 : BitVec 32 := Scalar.select v4 c20_i32 c19_i32
  let v7 : BitVec 32 := Scalar.muli v3 v5
  let c19_i32_1 : BitVec 32 := 19#32
  let v8 : BitVec 32 := Scalar.muli v3 c19_i32_1
  let c17_i32_2 : BitVec 32 := 17#32
  let v9 : BitVec 32 := Scalar.addi v8 c17_i32_2
  let v10 : BitVec 32 := Scalar.select v6 v7 v9
  let v84_r0 : BitVec 32 := Scalar.addi arg9_r0 v10
  let v174_r0 : BitVec 32 := Scalar.muli c1_i32_106_r0 v84_r0
  let c0_i32_110_r0 : BitVec 32 := 0#32
  let c0_i32_111_r0 : BitVec 32 := 0#32
  ![v174_r0.toNat, 0, 0]
def k0_off36 (arg7_r0 : BitVec 32) : Fin 1 → Nat :=
  let c2_i32_105_r0 : BitVec 32 := 2#32
  let v173_r0 : BitVec 32 := Scalar.remui arg7_r0 c2_i32_105_r0
  ![v173_r0.toNat]
def k0_off37 (arg8_r0 : BitVec 32) : Fin 4 → Nat :=
  let c2_i32_105_r0 : BitVec 32 := 2#32
  let v173_r0 : BitVec 32 := Scalar.remui arg8_r0 c2_i32_105_r0
  let c0_i32_107_r0 : BitVec 32 := 0#32
  let c0_i32_108_r0 : BitVec 32 := 0#32
  let c0_i32_109_r0 : BitVec 32 := 0#32
  ![v173_r0.toNat, 0, 0, 0]
def k0_cond16 (i : grid0.Coords) (k0_t3 : Fin (k0_t3_loop i).trips) (arg9_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c17_i32_0 : BitVec 32 := 17#32
  let v6 : BitVec 1 := Scalar.cmpi .slt v3 c17_i32_0
  let c17_i32 : BitVec 32 := 17#32
  let v4 : BitVec 1 := Scalar.cmpi .slt v3 c17_i32
  let c20_i32 : BitVec 32 := 20#32
  let c19_i32 : BitVec 32 := 19#32
  let v5 : BitVec 32 := Scalar.select v4 c20_i32 c19_i32
  let v7 : BitVec 32 := Scalar.muli v3 v5
  let c19_i32_1 : BitVec 32 := 19#32
  let v8 : BitVec 32 := Scalar.muli v3 c19_i32_1
  let c17_i32_2 : BitVec 32 := 17#32
  let v9 : BitVec 32 := Scalar.addi v8 c17_i32_2
  let v10 : BitVec 32 := Scalar.select v6 v7 v9
  let v84_r0 : BitVec 32 := Scalar.addi arg9_r0 v10
  let true_61_r0 : BitVec 1 := 1#1
  let c1_i32_60_r0 : BitVec 32 := 1#32
  let v85_r0 : BitVec 32 := Scalar.subi arg9_r0 c1_i32_60_r0
  let v86_r0 : BitVec 32 := Scalar.select true_61_r0 v85_r0 arg9_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v157_r0 : BitVec 1 := Scalar.cmpi .ne v84_r0 v90_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg4_r0 : BitVec 32 := Scf.iv v46_r0 c1_i32_36_r0 k0_t3
  let c0_i32_58_r0 : BitVec 32 := 0#32
  let v81_r0 : BitVec 1 := Scalar.cmpi .eq arg4_r0 c0_i32_58_r0
  let true_97_r0 : BitVec 1 := 1#1
  let v158_r0 : BitVec 1 := Scalar.xori v81_r0 true_97_r0
  let v159_r0 : BitVec 1 := Scalar.andi v157_r0 v158_r0
  let v160_r0 : BitVec 32 := Scalar.extui v159_r0
  let c0_i32_98_r0 : BitVec 32 := 0#32
  let v161_r0 : BitVec 1 := Scalar.cmpi .ne v160_r0 c0_i32_98_r0
  v161_r0

def k0_off38 (i : grid0.Coords) (arg9_r0 : BitVec 32) : Fin 3 → Nat :=
  let c1_i32_106_r0 : BitVec 32 := 1#32
  let true_61_r0 : BitVec 1 := 1#1
  let c1_i32_60_r0 : BitVec 32 := 1#32
  let v85_r0 : BitVec 32 := Scalar.subi arg9_r0 c1_i32_60_r0
  let v86_r0 : BitVec 32 := Scalar.select true_61_r0 v85_r0 arg9_r0
  let c_m1_i32_62_r0 : BitVec 32 := 4294967295#32
  let v87_r0 : BitVec 1 := Scalar.cmpi .eq v86_r0 c_m1_i32_62_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c17_i32 : BitVec 32 := 17#32
  let v4 : BitVec 1 := Scalar.cmpi .slt v3 c17_i32
  let c20_i32 : BitVec 32 := 20#32
  let c19_i32 : BitVec 32 := 19#32
  let v5 : BitVec 32 := Scalar.select v4 c20_i32 c19_i32
  let c1_i32_63_r0 : BitVec 32 := 1#32
  let v88_r0 : BitVec 32 := Scalar.subi v5 c1_i32_63_r0
  let v89_r0 : BitVec 32 := Scalar.select v87_r0 v88_r0 v86_r0
  let c17_i32_0 : BitVec 32 := 17#32
  let v6 : BitVec 1 := Scalar.cmpi .slt v3 c17_i32_0
  let v7 : BitVec 32 := Scalar.muli v3 v5
  let c19_i32_1 : BitVec 32 := 19#32
  let v8 : BitVec 32 := Scalar.muli v3 c19_i32_1
  let c17_i32_2 : BitVec 32 := 17#32
  let v9 : BitVec 32 := Scalar.addi v8 c17_i32_2
  let v10 : BitVec 32 := Scalar.select v6 v7 v9
  let v90_r0 : BitVec 32 := Scalar.addi v89_r0 v10
  let v174_r0 : BitVec 32 := Scalar.muli c1_i32_106_r0 v90_r0
  let c0_i32_110_r0 : BitVec 32 := 0#32
  let c0_i32_111_r0 : BitVec 32 := 0#32
  ![v174_r0.toNat, 0, 0]
def k0_off39 (arg8_r0 : BitVec 32) : Fin 1 → Nat :=
  let c2_i32_105_r0 : BitVec 32 := 2#32
  let v173_r0 : BitVec 32 := Scalar.remui arg8_r0 c2_i32_105_r0
  ![v173_r0.toNat]

def k0_chk6 (i : grid0.Coords) (k0_t3 : Fin (k0_t3_loop i).trips) (arg5_r0 : BitVec 32) (arg6_r0 : BitVec 32) (arg7_r0 : BitVec 32) (arg8_r0 : BitVec 32) (arg9_r0 : BitVec 32) : Prop :=
  (∀ (k0_h1 : k0_cond1 i = 1#1), ∀ (k0_h10 : k0_cond10 i k0_t3 arg9_r0 = 1#1), ∀ a, (k0_off22 arg5_r0) a + S1x1x100x32.size a ≤ S2x1x100x32.size a) ∧
  (∀ (k0_h1 : k0_cond1 i = 1#1), ∀ (k0_h10 : k0_cond10 i k0_t3 arg9_r0 = 1#1), ∀ a, (k0_off23 i arg9_r0) a + S1x100x32.size a ≤ S625x100x32.size a) ∧
  (∀ (k0_h1 : k0_cond1 i = 1#1), ∀ (k0_h10 : k0_cond10 i k0_t3 arg9_r0 = 1#1), ∀ a, (k0_off24 arg5_r0) a + S1.size a ≤ S2.size a) ∧
  (∀ (k0_h1 : k0_cond1 i = 1#1), ∀ (k0_h11 : k0_cond11 i k0_t3 arg9_r0 = 1#1), ∀ a, (k0_off25 arg6_r0) a + S1x1x100x32.size a ≤ S2x1x100x32.size a) ∧
  (∀ (k0_h1 : k0_cond1 i = 1#1), ∀ (k0_h11 : k0_cond11 i k0_t3 arg9_r0 = 1#1), ∀ a, (k0_off26 i arg9_r0) a + S1x100x32.size a ≤ S625x100x32.size a) ∧
  (∀ (k0_h1 : k0_cond1 i = 1#1), ∀ (k0_h11 : k0_cond11 i k0_t3 arg9_r0 = 1#1), ∀ a, (k0_off27 arg6_r0) a + S1.size a ≤ S2.size a) ∧
  (∀ (k0_h1 : k0_cond1 i = 1#1), ∀ (k0_h14 : k0_cond14 i k0_t3 arg9_r0 = 1#1), ∀ a, (k0_off34 arg7_r0) a + S1x1x100x16.size a ≤ S2x1x100x16.size a) ∧
  (∀ (k0_h1 : k0_cond1 i = 1#1), ∀ (k0_h14 : k0_cond14 i k0_t3 arg9_r0 = 1#1), ∀ a, (k0_off35 i arg9_r0) a + S1x100x16.size a ≤ S625x100x16.size a) ∧
  (∀ (k0_h1 : k0_cond1 i = 1#1), ∀ (k0_h14 : k0_cond14 i k0_t3 arg9_r0 = 1#1), ∀ a, (k0_off36 arg7_r0) a + S1.size a ≤ S2.size a) ∧
  (∀ (k0_h1 : k0_cond1 i = 1#1), ∀ (k0_h16 : k0_cond16 i k0_t3 arg9_r0 = 1#1), ∀ a, (k0_off37 arg8_r0) a + S1x1x100x16.size a ≤ S2x1x100x16.size a) ∧
  (∀ (k0_h1 : k0_cond1 i = 1#1), ∀ (k0_h16 : k0_cond16 i k0_t3 arg9_r0 = 1#1), ∀ a, (k0_off38 i arg9_r0) a + S1x100x16.size a ≤ S625x100x16.size a) ∧
  (∀ (k0_h1 : k0_cond1 i = 1#1), ∀ (k0_h16 : k0_cond16 i k0_t3 arg9_r0 = 1#1), ∀ a, (k0_off39 arg8_r0) a + S1.size a ≤ S2.size a)
theorem k0_off22_inb : ∀ (i : grid0.Coords) (k0_t3 : Fin (k0_t3_loop i).trips) (arg5_r0 : BitVec 32) (arg6_r0 : BitVec 32) (arg7_r0 : BitVec 32) (arg8_r0 : BitVec 32) (arg9_r0 : BitVec 32) (k0_hw6 : k0_chk6 i k0_t3 arg5_r0 arg6_r0 arg7_r0 arg8_r0 arg9_r0), ∀ (k0_h1 : k0_cond1 i = 1#1), ∀ (k0_h10 : k0_cond10 i k0_t3 arg9_r0 = 1#1), ∀ a, (k0_off22 arg5_r0) a + S1x1x100x32.size a ≤ S2x1x100x32.size a := fun i k0_t3 arg5_r0 arg6_r0 arg7_r0 arg8_r0 arg9_r0 k0_hw6 k0_h1 k0_h10 => k0_hw6.1 k0_h1 k0_h10
theorem k0_off23_inb : ∀ (i : grid0.Coords) (k0_t3 : Fin (k0_t3_loop i).trips) (arg5_r0 : BitVec 32) (arg6_r0 : BitVec 32) (arg7_r0 : BitVec 32) (arg8_r0 : BitVec 32) (arg9_r0 : BitVec 32) (k0_hw6 : k0_chk6 i k0_t3 arg5_r0 arg6_r0 arg7_r0 arg8_r0 arg9_r0), ∀ (k0_h1 : k0_cond1 i = 1#1), ∀ (k0_h10 : k0_cond10 i k0_t3 arg9_r0 = 1#1), ∀ a, (k0_off23 i arg9_r0) a + S1x100x32.size a ≤ S625x100x32.size a := fun i k0_t3 arg5_r0 arg6_r0 arg7_r0 arg8_r0 arg9_r0 k0_hw6 k0_h1 k0_h10 => k0_hw6.2.1 k0_h1 k0_h10
theorem k0_off24_inb : ∀ (i : grid0.Coords) (k0_t3 : Fin (k0_t3_loop i).trips) (arg5_r0 : BitVec 32) (arg6_r0 : BitVec 32) (arg7_r0 : BitVec 32) (arg8_r0 : BitVec 32) (arg9_r0 : BitVec 32) (k0_hw6 : k0_chk6 i k0_t3 arg5_r0 arg6_r0 arg7_r0 arg8_r0 arg9_r0), ∀ (k0_h1 : k0_cond1 i = 1#1), ∀ (k0_h10 : k0_cond10 i k0_t3 arg9_r0 = 1#1), ∀ a, (k0_off24 arg5_r0) a + S1.size a ≤ S2.size a := fun i k0_t3 arg5_r0 arg6_r0 arg7_r0 arg8_r0 arg9_r0 k0_hw6 k0_h1 k0_h10 => k0_hw6.2.2.1 k0_h1 k0_h10
theorem k0_off25_inb : ∀ (i : grid0.Coords) (k0_t3 : Fin (k0_t3_loop i).trips) (arg5_r0 : BitVec 32) (arg6_r0 : BitVec 32) (arg7_r0 : BitVec 32) (arg8_r0 : BitVec 32) (arg9_r0 : BitVec 32) (k0_hw6 : k0_chk6 i k0_t3 arg5_r0 arg6_r0 arg7_r0 arg8_r0 arg9_r0), ∀ (k0_h1 : k0_cond1 i = 1#1), ∀ (k0_h11 : k0_cond11 i k0_t3 arg9_r0 = 1#1), ∀ a, (k0_off25 arg6_r0) a + S1x1x100x32.size a ≤ S2x1x100x32.size a := fun i k0_t3 arg5_r0 arg6_r0 arg7_r0 arg8_r0 arg9_r0 k0_hw6 k0_h1 k0_h11 => k0_hw6.2.2.2.1 k0_h1 k0_h11
theorem k0_off26_inb : ∀ (i : grid0.Coords) (k0_t3 : Fin (k0_t3_loop i).trips) (arg5_r0 : BitVec 32) (arg6_r0 : BitVec 32) (arg7_r0 : BitVec 32) (arg8_r0 : BitVec 32) (arg9_r0 : BitVec 32) (k0_hw6 : k0_chk6 i k0_t3 arg5_r0 arg6_r0 arg7_r0 arg8_r0 arg9_r0), ∀ (k0_h1 : k0_cond1 i = 1#1), ∀ (k0_h11 : k0_cond11 i k0_t3 arg9_r0 = 1#1), ∀ a, (k0_off26 i arg9_r0) a + S1x100x32.size a ≤ S625x100x32.size a := fun i k0_t3 arg5_r0 arg6_r0 arg7_r0 arg8_r0 arg9_r0 k0_hw6 k0_h1 k0_h11 => k0_hw6.2.2.2.2.1 k0_h1 k0_h11
theorem k0_off27_inb : ∀ (i : grid0.Coords) (k0_t3 : Fin (k0_t3_loop i).trips) (arg5_r0 : BitVec 32) (arg6_r0 : BitVec 32) (arg7_r0 : BitVec 32) (arg8_r0 : BitVec 32) (arg9_r0 : BitVec 32) (k0_hw6 : k0_chk6 i k0_t3 arg5_r0 arg6_r0 arg7_r0 arg8_r0 arg9_r0), ∀ (k0_h1 : k0_cond1 i = 1#1), ∀ (k0_h11 : k0_cond11 i k0_t3 arg9_r0 = 1#1), ∀ a, (k0_off27 arg6_r0) a + S1.size a ≤ S2.size a := fun i k0_t3 arg5_r0 arg6_r0 arg7_r0 arg8_r0 arg9_r0 k0_hw6 k0_h1 k0_h11 => k0_hw6.2.2.2.2.2.1 k0_h1 k0_h11
theorem k0_off34_inb : ∀ (i : grid0.Coords) (k0_t3 : Fin (k0_t3_loop i).trips) (arg5_r0 : BitVec 32) (arg6_r0 : BitVec 32) (arg7_r0 : BitVec 32) (arg8_r0 : BitVec 32) (arg9_r0 : BitVec 32) (k0_hw6 : k0_chk6 i k0_t3 arg5_r0 arg6_r0 arg7_r0 arg8_r0 arg9_r0), ∀ (k0_h1 : k0_cond1 i = 1#1), ∀ (k0_h14 : k0_cond14 i k0_t3 arg9_r0 = 1#1), ∀ a, (k0_off34 arg7_r0) a + S1x1x100x16.size a ≤ S2x1x100x16.size a := fun i k0_t3 arg5_r0 arg6_r0 arg7_r0 arg8_r0 arg9_r0 k0_hw6 k0_h1 k0_h14 => k0_hw6.2.2.2.2.2.2.1 k0_h1 k0_h14
theorem k0_off35_inb : ∀ (i : grid0.Coords) (k0_t3 : Fin (k0_t3_loop i).trips) (arg5_r0 : BitVec 32) (arg6_r0 : BitVec 32) (arg7_r0 : BitVec 32) (arg8_r0 : BitVec 32) (arg9_r0 : BitVec 32) (k0_hw6 : k0_chk6 i k0_t3 arg5_r0 arg6_r0 arg7_r0 arg8_r0 arg9_r0), ∀ (k0_h1 : k0_cond1 i = 1#1), ∀ (k0_h14 : k0_cond14 i k0_t3 arg9_r0 = 1#1), ∀ a, (k0_off35 i arg9_r0) a + S1x100x16.size a ≤ S625x100x16.size a := fun i k0_t3 arg5_r0 arg6_r0 arg7_r0 arg8_r0 arg9_r0 k0_hw6 k0_h1 k0_h14 => k0_hw6.2.2.2.2.2.2.2.1 k0_h1 k0_h14
theorem k0_off36_inb : ∀ (i : grid0.Coords) (k0_t3 : Fin (k0_t3_loop i).trips) (arg5_r0 : BitVec 32) (arg6_r0 : BitVec 32) (arg7_r0 : BitVec 32) (arg8_r0 : BitVec 32) (arg9_r0 : BitVec 32) (k0_hw6 : k0_chk6 i k0_t3 arg5_r0 arg6_r0 arg7_r0 arg8_r0 arg9_r0), ∀ (k0_h1 : k0_cond1 i = 1#1), ∀ (k0_h14 : k0_cond14 i k0_t3 arg9_r0 = 1#1), ∀ a, (k0_off36 arg7_r0) a + S1.size a ≤ S2.size a := fun i k0_t3 arg5_r0 arg6_r0 arg7_r0 arg8_r0 arg9_r0 k0_hw6 k0_h1 k0_h14 => k0_hw6.2.2.2.2.2.2.2.2.1 k0_h1 k0_h14
theorem k0_off37_inb : ∀ (i : grid0.Coords) (k0_t3 : Fin (k0_t3_loop i).trips) (arg5_r0 : BitVec 32) (arg6_r0 : BitVec 32) (arg7_r0 : BitVec 32) (arg8_r0 : BitVec 32) (arg9_r0 : BitVec 32) (k0_hw6 : k0_chk6 i k0_t3 arg5_r0 arg6_r0 arg7_r0 arg8_r0 arg9_r0), ∀ (k0_h1 : k0_cond1 i = 1#1), ∀ (k0_h16 : k0_cond16 i k0_t3 arg9_r0 = 1#1), ∀ a, (k0_off37 arg8_r0) a + S1x1x100x16.size a ≤ S2x1x100x16.size a := fun i k0_t3 arg5_r0 arg6_r0 arg7_r0 arg8_r0 arg9_r0 k0_hw6 k0_h1 k0_h16 => k0_hw6.2.2.2.2.2.2.2.2.2.1 k0_h1 k0_h16
theorem k0_off38_inb : ∀ (i : grid0.Coords) (k0_t3 : Fin (k0_t3_loop i).trips) (arg5_r0 : BitVec 32) (arg6_r0 : BitVec 32) (arg7_r0 : BitVec 32) (arg8_r0 : BitVec 32) (arg9_r0 : BitVec 32) (k0_hw6 : k0_chk6 i k0_t3 arg5_r0 arg6_r0 arg7_r0 arg8_r0 arg9_r0), ∀ (k0_h1 : k0_cond1 i = 1#1), ∀ (k0_h16 : k0_cond16 i k0_t3 arg9_r0 = 1#1), ∀ a, (k0_off38 i arg9_r0) a + S1x100x16.size a ≤ S625x100x16.size a := fun i k0_t3 arg5_r0 arg6_r0 arg7_r0 arg8_r0 arg9_r0 k0_hw6 k0_h1 k0_h16 => k0_hw6.2.2.2.2.2.2.2.2.2.2.1 k0_h1 k0_h16
theorem k0_off39_inb : ∀ (i : grid0.Coords) (k0_t3 : Fin (k0_t3_loop i).trips) (arg5_r0 : BitVec 32) (arg6_r0 : BitVec 32) (arg7_r0 : BitVec 32) (arg8_r0 : BitVec 32) (arg9_r0 : BitVec 32) (k0_hw6 : k0_chk6 i k0_t3 arg5_r0 arg6_r0 arg7_r0 arg8_r0 arg9_r0), ∀ (k0_h1 : k0_cond1 i = 1#1), ∀ (k0_h16 : k0_cond16 i k0_t3 arg9_r0 = 1#1), ∀ a, (k0_off39 arg8_r0) a + S1.size a ≤ S2.size a := fun i k0_t3 arg5_r0 arg6_r0 arg7_r0 arg8_r0 arg9_r0 k0_hw6 k0_h1 k0_h16 => k0_hw6.2.2.2.2.2.2.2.2.2.2.2 k0_h1 k0_h16

def k0_cond18 (i : grid0.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c17_i32 : BitVec 32 := 17#32
  let v4 : BitVec 1 := Scalar.cmpi .slt v3 c17_i32
  let c20_i32 : BitVec 32 := 20#32
  let c19_i32 : BitVec 32 := 19#32
  let v5 : BitVec 32 := Scalar.select v4 c20_i32 c19_i32
  let v11 : BitVec 32 := Scalar.muli c1_i32_3 v5
  let c1_i32_41_r0 : BitVec 32 := 1#32
  let v54_r0 : BitVec 32 := Scalar.subi v11 c1_i32_41_r0
  let c1_i32_42_r0 : BitVec 32 := 1#32
  let v55_r0 : BitVec 32 := Scalar.muli c1_i32_42_r0 v5
  let c1_i32_44_r0 : BitVec 32 := 1#32
  let v57_r0 : BitVec 32 := Scalar.subi v55_r0 c1_i32_44_r0
  let v58_r0 : BitVec 1 := Scalar.cmpi .eq v54_r0 v57_r0
  let v78_r0 : BitVec 32 := Scalar.extui v58_r0
  let c0_i32_56_r0 : BitVec 32 := 0#32
  let v79_r0 : BitVec 1 := Scalar.cmpi .ne v78_r0 c0_i32_56_r0
  v79_r0

def k0_off40 (v48_3_r0 : BitVec 32) : Fin 4 → Nat :=
  let c2_i32_r0 : BitVec 32 := 2#32
  let v80_r0 : BitVec 32 := Scalar.remui v48_3_r0 c2_i32_r0
  let c0_i32_58_r0 : BitVec 32 := 0#32
  let c0_i32_59_r0 : BitVec 32 := 0#32
  let c0_i32_60_r0 : BitVec 32 := 0#32
  ![v80_r0.toNat, 0, 0, 0]

def k0_off41 (i : grid0.Coords) (v48_4_r0 : BitVec 32) : Fin 3 → Nat :=
  let c1_i32_57_r0 : BitVec 32 := 1#32
  let true_38_r0 : BitVec 1 := 1#1
  let c1_i32_37_r0 : BitVec 32 := 1#32
  let v49_r0 : BitVec 32 := Scalar.subi v48_4_r0 c1_i32_37_r0
  let v50_r0 : BitVec 32 := Scalar.select true_38_r0 v49_r0 v48_4_r0
  let c_m1_i32_39_r0 : BitVec 32 := 4294967295#32
  let v51_r0 : BitVec 1 := Scalar.cmpi .eq v50_r0 c_m1_i32_39_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c17_i32 : BitVec 32 := 17#32
  let v4 : BitVec 1 := Scalar.cmpi .slt v3 c17_i32
  let c20_i32 : BitVec 32 := 20#32
  let c19_i32 : BitVec 32 := 19#32
  let v5 : BitVec 32 := Scalar.select v4 c20_i32 c19_i32
  let c1_i32_40_r0 : BitVec 32 := 1#32
  let v52_r0 : BitVec 32 := Scalar.subi v5 c1_i32_40_r0
  let v53_r0 : BitVec 32 := Scalar.select v51_r0 v52_r0 v50_r0
  let c17_i32_0 : BitVec 32 := 17#32
  let v6 : BitVec 1 := Scalar.cmpi .slt v3 c17_i32_0
  let v7 : BitVec 32 := Scalar.muli v3 v5
  let c19_i32_1 : BitVec 32 := 19#32
  let v8 : BitVec 32 := Scalar.muli v3 c19_i32_1
  let c17_i32_2 : BitVec 32 := 17#32
  let v9 : BitVec 32 := Scalar.addi v8 c17_i32_2
  let v10 : BitVec 32 := Scalar.select v6 v7 v9
  let v59_r0 : BitVec 32 := Scalar.addi v53_r0 v10
  let v81_r0 : BitVec 32 := Scalar.muli c1_i32_57_r0 v59_r0
  let c0_i32_61_r0 : BitVec 32 := 0#32
  let c0_i32_62_r0 : BitVec 32 := 0#32
  ![v81_r0.toNat, 0, 0]

def k0_chk12 (i : grid0.Coords) (v48_4_r0 : BitVec 32) : Prop :=
  (∀ (k0_h1 : k0_cond1 i = 1#1), ∀ (k0_h18 : k0_cond18 i = 1#1), ∀ a, (k0_off41 i v48_4_r0) a + S1x100x16.size a ≤ S625x100x16.size a)
theorem k0_off41_inb : ∀ (i : grid0.Coords) (v48_4_r0 : BitVec 32) (k0_hw12 : k0_chk12 i v48_4_r0), ∀ (k0_h1 : k0_cond1 i = 1#1), ∀ (k0_h18 : k0_cond18 i = 1#1), ∀ a, (k0_off41 i v48_4_r0) a + S1x100x16.size a ≤ S625x100x16.size a := fun i v48_4_r0 k0_hw12 k0_h1 k0_h18 => k0_hw12 k0_h1 k0_h18

def k0_off42 (v48_3_r0 : BitVec 32) : Fin 1 → Nat :=
  let c2_i32_r0 : BitVec 32 := 2#32
  let v80_r0 : BitVec 32 := Scalar.remui v48_3_r0 c2_i32_r0
  ![v80_r0.toNat]
def k0_off43 (v48_3_r0 : BitVec 32) : Fin 4 → Nat :=
  let c2_i32_r0 : BitVec 32 := 2#32
  let v80_r0 : BitVec 32 := Scalar.remui v48_3_r0 c2_i32_r0
  let c0_i32_65_r0 : BitVec 32 := 0#32
  let c0_i32_66_r0 : BitVec 32 := 0#32
  let c0_i32_67_r0 : BitVec 32 := 0#32
  ![v80_r0.toNat, 0, 0, 0]

def k0_chk11 (i : grid0.Coords) (v48_3_r0 : BitVec 32) : Prop :=
  (∀ (k0_h1 : k0_cond1 i = 1#1), ∀ (k0_h18 : k0_cond18 i = 1#1), ∀ a, (k0_off40 v48_3_r0) a + S1x1x100x16.size a ≤ S2x1x100x16.size a) ∧
  (∀ (k0_h1 : k0_cond1 i = 1#1), ∀ (k0_h18 : k0_cond18 i = 1#1), ∀ a, (k0_off42 v48_3_r0) a + S1.size a ≤ S2.size a) ∧
  (∀ (k0_h1 : k0_cond1 i = 1#1), ∀ (k0_h18 : k0_cond18 i = 1#1), ∀ a, (k0_off43 v48_3_r0) a + S1x1x100x16.size a ≤ S2x1x100x16.size a)
theorem k0_off40_inb : ∀ (i : grid0.Coords) (v48_3_r0 : BitVec 32) (k0_hw11 : k0_chk11 i v48_3_r0), ∀ (k0_h1 : k0_cond1 i = 1#1), ∀ (k0_h18 : k0_cond18 i = 1#1), ∀ a, (k0_off40 v48_3_r0) a + S1x1x100x16.size a ≤ S2x1x100x16.size a := fun i v48_3_r0 k0_hw11 k0_h1 k0_h18 => k0_hw11.1 k0_h1 k0_h18
theorem k0_off42_inb : ∀ (i : grid0.Coords) (v48_3_r0 : BitVec 32) (k0_hw11 : k0_chk11 i v48_3_r0), ∀ (k0_h1 : k0_cond1 i = 1#1), ∀ (k0_h18 : k0_cond18 i = 1#1), ∀ a, (k0_off42 v48_3_r0) a + S1.size a ≤ S2.size a := fun i v48_3_r0 k0_hw11 k0_h1 k0_h18 => k0_hw11.2.1 k0_h1 k0_h18
theorem k0_off43_inb : ∀ (i : grid0.Coords) (v48_3_r0 : BitVec 32) (k0_hw11 : k0_chk11 i v48_3_r0), ∀ (k0_h1 : k0_cond1 i = 1#1), ∀ (k0_h18 : k0_cond18 i = 1#1), ∀ a, (k0_off43 v48_3_r0) a + S1x1x100x16.size a ≤ S2x1x100x16.size a := fun i v48_3_r0 k0_hw11 k0_h1 k0_h18 => k0_hw11.2.2 k0_h1 k0_h18

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1000000x2 : Shape := ⟨2, ![1000000, 2]⟩
abbrev S1000000x1 : Shape := ⟨2, ![1000000, 1]⟩
abbrev S1000000 : Shape := ⟨1, ![1000000]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S1000000x2, .f32⟩
  | .hbm, ⟨1, _⟩ => ⟨S1000000x1, .f32⟩
  | .hbm, ⟨2, _⟩ => ⟨S1000000, .f32⟩
  | .hbm, ⟨3, _⟩ => ⟨S_, .f32⟩
  | .hbm, ⟨4, _⟩ => ⟨S1000000, .f32⟩
  | .hbm, ⟨5, _⟩ => ⟨S1000000, .i1⟩
  | .hbm, ⟨6, _⟩ => ⟨S1000000x1, .f32⟩
  | .hbm, ⟨7, _⟩ => ⟨S1000000, .f32⟩
  | .hbm, ⟨8, _⟩ => ⟨S_, .f32⟩
  | .hbm, ⟨9, _⟩ => ⟨S1000000, .f32⟩
  | .hbm, ⟨10, _⟩ => ⟨S1000000, .i1⟩
  | .hbm, ⟨11, _⟩ => ⟨S1000000, .i1⟩
  | .hbm, ⟨12, _⟩ => ⟨S1000000x1, .f32⟩
  | .hbm, ⟨13, _⟩ => ⟨S1000000, .f32⟩
  | .hbm, ⟨14, _⟩ => ⟨S_, .f32⟩
  | .hbm, ⟨15, _⟩ => ⟨S1000000, .f32⟩
  | .hbm, ⟨16, _⟩ => ⟨S1000000, .i1⟩
  | .hbm, ⟨17, _⟩ => ⟨S1000000, .i1⟩
  | .hbm, ⟨18, _⟩ => ⟨S1000000x1, .f32⟩
  | .hbm, ⟨19, _⟩ => ⟨S1000000, .f32⟩
  | .hbm, ⟨20, _⟩ => ⟨S_, .f32⟩
  | .hbm, ⟨21, _⟩ => ⟨S1000000, .f32⟩
  | .hbm, ⟨22, _⟩ => ⟨S1000000, .i1⟩
  | .hbm, ⟨23, _⟩ => ⟨S1000000, .i1⟩
  | .hbm, ⟨24, _⟩ => ⟨S1000000x1, .i1⟩
  | .hbm, ⟨25, _⟩ => ⟨S_, .f32⟩
  | .hbm, ⟨26, _⟩ => ⟨S_, .f32⟩
  | .hbm, ⟨27, _⟩ => ⟨S1000000x1, .f32⟩
  | .hbm, ⟨28, _⟩ => ⟨S1000000x1, .f32⟩
  | .hbm, ⟨29, _⟩ => ⟨S1000000x1, .f32⟩
  | _, _ => ⟨S1000000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_2 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_3 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Proof.KI.Arith.lean ====
/- The words of the tile program, as numbers: how many blocks a tile takes and from which block on,
   which branches its trips take, where its slices lie, and what its loop carries. -/
module

public import proofs.«01_k».proof.Proof.Gen.KernelIdeal.Skeleton

@[expose] public section

noncomputable section

namespace Cert.KernelIdeal.Tile

open Idealize.ShloMosaic
open Cert.KernelIdeal Cert.KernelIdeal.Gen

/-- A tile's number among the thirty-two. -/
def wid (i : grid0.Coords) : ℕ := (i 1).val + 16 * (i 0).val

/-- How many blocks of a hundred rows the tile takes. -/
def cnt (i : grid0.Coords) : ℕ := if wid i < 17 then 20 else 19

/-- The tile's first block. -/
def base (i : grid0.Coords) : ℕ := if wid i < 17 then wid i * 20 else wid i * 19 + 17

theorem wid_lt (i : grid0.Coords) : wid i < 32 := by
  have h0 : (i 0).val < 2 := (i 0).isLt
  have h1 : (i 1).val < 16 := (i 1).isLt
  unfold wid
  omega

theorem cnt_le (i : grid0.Coords) : cnt i ≤ 20 := by unfold cnt; split <;> omega
theorem cnt_ge (i : grid0.Coords) : 19 ≤ cnt i := by unfold cnt; split <;> omega

theorem base_add_cnt_le (i : grid0.Coords) : base i + cnt i ≤ 625 := by
  have := wid_lt i
  unfold base cnt
  split <;> omega

/-- The tile a block belongs to. -/
def owner (b : ℕ) : ℕ := if b < 340 then b / 20 else (b - 17) / 19

theorem owner_lt {b : ℕ} (hb : b < 625) : owner b < 32 := by
  unfold owner
  split <;> omega

theorem mem_iff_owner (i : grid0.Coords) (b : ℕ) : (base i ≤ b ∧ b < base i + cnt i) ↔ owner b = wid i := by
  have := wid_lt i
  unfold base cnt owner
  split <;> split <;> omega

/-! ## Trips and branches -/

theorem t1_trips : ∀ i : grid0.Coords, (k0_t1_loop i).trips = cnt i := by decide +kernel
theorem t2_trips : k0_t2_loop.trips = 100 := by decide +kernel
theorem t3_trips : ∀ i : grid0.Coords, (k0_t3_loop i).trips = 0 := by decide +kernel

theorem cond1 : ∀ i : grid0.Coords, k0_cond1 i = 1#1 := by decide +kernel
theorem cond2 : ∀ i : grid0.Coords, k0_cond2 i = 1#1 := by decide +kernel
theorem cond18 : ∀ i : grid0.Coords, k0_cond18 i = 1#1 := by decide +kernel

theorem cond3 : ∀ (i : grid0.Coords) (t : Fin (k0_t1_loop i).trips),
    k0_cond3 i t (BitVec.ofNat 32 t.val) = 1#1 ↔ t.val + 1 < cnt i := by decide +kernel
theorem cond4 : ∀ (i : grid0.Coords) (t : Fin (k0_t1_loop i).trips),
    k0_cond4 i t (BitVec.ofNat 32 t.val) = 1#1 := by decide +kernel
theorem cond7 : ∀ (i : grid0.Coords) (t : Fin (k0_t1_loop i).trips),
    k0_cond7 i t (BitVec.ofNat 32 t.val) = 1#1 := by decide +kernel
theorem cond9 : ∀ (i : grid0.Coords) (t : Fin (k0_t1_loop i).trips),
    k0_cond9 i t (BitVec.ofNat 32 t.val) = 1#1 ↔ 0 < t.val := by decide +kernel

/-! ## Offsets -/

/-- The first word a slot `p` of the incoming or outgoing ring lies at. -/
def slot4 (p : ℕ) : Fin 4 → ℕ := ![p, 0, 0, 0]
/-- Block `b` of either array. -/
def blk3 (b : ℕ) : Fin 3 → ℕ := ![b, 0, 0]

theorem off4 : ∀ n : Fin 32, k0_off4 (BitVec.ofNat 32 n.val) = slot4 (n.val % 2) := by decide +kernel
theorem off6 : ∀ n : Fin 32, k0_off6 (BitVec.ofNat 32 n.val) = ![n.val % 2] := by decide +kernel
theorem off7 : ∀ n : Fin 32, k0_off7 (BitVec.ofNat 32 n.val) = slot4 (n.val % 2) := by decide +kernel
theorem off9 : ∀ n : Fin 32, k0_off9 (BitVec.ofNat 32 n.val) = ![n.val % 2] := by decide +kernel
theorem off10 : ∀ n : Fin 32, k0_off10 (BitVec.ofNat 32 n.val) = slot4 (n.val % 2) := by decide +kernel
theorem off12 : ∀ n : Fin 32, k0_off12 (BitVec.ofNat 32 n.val) = slot4 (n.val % 2) := by decide +kernel
theorem off14 : ∀ n : Fin 32, k0_off14 (BitVec.ofNat 32 n.val) = slot4 (n.val % 2) := by decide +kernel
theorem off16 : ∀ n : Fin 32, k0_off16 (BitVec.ofNat 32 n.val) = slot4 (n.val % 2) := by decide +kernel
theorem off18 : ∀ n : Fin 32, k0_off18 (BitVec.ofNat 32 n.val) = ![n.val % 2] := by decide +kernel
theorem off19 : ∀ n : Fin 32, k0_off19 (BitVec.ofNat 32 n.val) = slot4 (n.val % 2) := by decide +kernel
theorem off21 : ∀ n : Fin 32, k0_off21 (BitVec.ofNat 32 n.val) = ![n.val % 2] := by decide +kernel
theorem off42 : ∀ n : Fin 32, k0_off42 (BitVec.ofNat 32 n.val) = ![n.val % 2] := by decide +kernel
theorem off43 : ∀ n : Fin 32, k0_off43 (BitVec.ofNat 32 n.val) = slot4 (n.val % 2) := by decide +kernel

theorem off2 : ∀ i : grid0.Coords, k0_off2 i = blk3 (base i) := by decide +kernel
theorem off5 : ∀ (i : grid0.Coords) (t : Fin (k0_t1_loop i).trips), t.val + 1 < cnt i →
    k0_off5 i (BitVec.ofNat 32 t.val) = blk3 (base i + (t.val + 1)) := by decide +kernel
theorem off8 : ∀ (i : grid0.Coords) (t : Fin (k0_t1_loop i).trips),
    k0_off8 i (BitVec.ofNat 32 t.val) = blk3 (base i + t.val) := by decide +kernel
theorem off17 : ∀ (i : grid0.Coords) (t : Fin (k0_t1_loop i).trips),
    k0_off17 i (BitVec.ofNat 32 t.val) = blk3 (base i + t.val) := by decide +kernel
theorem off20 : ∀ (i : grid0.Coords) (t : Fin (k0_t1_loop i).trips), 0 < t.val →
    k0_off20 i (BitVec.ofNat 32 t.val) = blk3 (base i + (t.val - 1)) := by decide +kernel
theorem off41 : ∀ i : grid0.Coords, k0_off41 i 0#32 = blk3 (base i + (cnt i - 1)) := by decide +kernel

/-! ## What the loop carries

At the start of trip `t`: the next block to fetch, the block to read, the block to write, the block
whose write is awaited, and the trip's number counted within the tile (back at zero after the last). -/

def a5 (i : grid0.Coords) (t : ℕ) : BitVec 32 := BitVec.ofNat 32 (min (t + 1) (cnt i))
def a8 (t : ℕ) : BitVec 32 := BitVec.ofNat 32 (t - 1)
def a9 (i : grid0.Coords) (t : ℕ) : BitVec 32 := if t = cnt i then 0#32 else BitVec.ofNat 32 t

def carried (i : grid0.Coords) (t : ℕ) : BitVec 32 × BitVec 32 × BitVec 32 × BitVec 32 × BitVec 32 :=
  (a5 i t, BitVec.ofNat 32 t, BitVec.ofNat 32 t, a8 t, a9 i t)

theorem trip_lt {i : grid0.Coords} (t : Fin (k0_t1_loop i).trips) : t.val < cnt i := lt_of_lt_of_eq t.isLt (t1_trips i)

theorem a9_trip {i : grid0.Coords} (t : Fin (k0_t1_loop i).trips) : a9 i t.val = BitVec.ofNat 32 t.val := by
  have h := trip_lt t
  unfold a9
  rw [if_neg (by omega)]

/-! ## The run-time checks hold -/

theorem chk1 : ∀ (i : grid0.Coords) (t : Fin (k0_t1_loop i).trips),
    k0_chk1 i t (a5 i t.val) (BitVec.ofNat 32 t.val) (BitVec.ofNat 32 t.val) (a8 t.val) (BitVec.ofNat 32 t.val) := by
  decide +kernel
theorem chk2 : ∀ (i : grid0.Coords) (t : Fin (k0_t1_loop i).trips), k0_chk2 i (BitVec.ofNat 32 t.val) := by decide +kernel
theorem chk5 : ∀ (i : grid0.Coords) (t : Fin (k0_t1_loop i).trips), k0_chk5 i (BitVec.ofNat 32 t.val) := by decide +kernel
theorem chk3 : ∀ i : grid0.Coords, k0_chk3 i k0_pay1 := by decide +kernel
theorem chk4 : ∀ i : grid0.Coords, k0_chk4 i (k0_pay2 k0_pay1) := by decide +kernel
theorem chk11 : ∀ i : grid0.Coords, k0_chk11 i (a8 (cnt i)) := by decide +kernel
theorem chk12 : ∀ i : grid0.Coords, k0_chk12 i 0#32 := by decide +kernel

/-- The even lanes' places in a row of thirty-two. -/
theorem lane_even : ∀ j : S16.Idx, (k0_pay1 j).toNat = 2 * (j 0).val := by decide +kernel
/-- The odd lanes' places. -/
theorem lane_odd : ∀ j : S16.Idx, (k0_pay2 k0_pay1 j).toNat = 2 * (j 0).val + 1 := by decide +kernel

end Cert.KernelIdeal.Tile

end
-- ==== Proof.KI.Geom.lean ====
/- Where the slots and blocks a tile's copies name lie, and what a copy leaves in them. -/
module

public import proofs.«01_k».proof.Proof.KI.Arith
public import Idealize.ShloMosaic.Lib.ValueLayout
public import Idealize.ShloMosaic.Lib.SparseCore.Ops

@[expose] public section

noncomputable section

namespace Cert.KernelIdeal.Tile

open Idealize.ShloMosaic Idealize.ShloMosaic.ValueIdx
open Cert.KernelIdeal Cert.KernelIdeal.Gen

variable {F : FTy → Type} [FloatOps F]

/-! ## The memrefs -/

/-- A slot of the incoming ring. -/
abbrev inSlot (o : Fin 4 → ℕ) (h : ∀ a, o a + S1x1x100x32.size a ≤ S2x1x100x32.size a) :
    Memref sig .scVector .vmem S1x100x32 .f32 :=
  ((Memref.whole cc0_scoped0).slice (Rect.unit (s := S2x1x100x32) o S1x1x100x32.size h) (fun _ => rfl)).squeeze S1x100x32
    squeezes_S1x1x100x32_S1x100x32

/-- A slot of the outgoing ring. -/
abbrev outSlot (o : Fin 4 → ℕ) (h : ∀ a, o a + S1x1x100x16.size a ≤ S2x1x100x16.size a) :
    Memref sig .scVector .vmem S1x100x16 .f32 :=
  ((Memref.whole cc0_scoped2).slice (Rect.unit (s := S2x1x100x16) o S1x1x100x16.size h) (fun _ => rfl)).squeeze S1x100x16
    squeezes_S1x1x100x16_S1x100x16

/-- A block of the array read. -/
abbrev xBlock (o : Fin 3 → ℕ) (h : ∀ a, o a + S1x100x32.size a ≤ S625x100x32.size a) :
    Memref sig .scVector .hbm S1x100x32 .f32 :=
  (Memref.whole main_v0_scv).slice (Rect.unit (s := S625x100x32) o S1x100x32.size h) (fun _ => rfl)

/-- A block of the array written. -/
abbrev yBlock (o : Fin 3 → ℕ) (h : ∀ a, o a + S1x100x16.size a ≤ S625x100x16.size a) :
    Memref sig .scVector .hbm S1x100x16 .f32 :=
  (Memref.whole main_v1_scv).slice (Rect.unit (s := S625x100x16) o S1x100x16.size h) (fun _ => rfl)

/-- One row of an incoming slot, as a vector of thirty-two. -/
abbrev inRow (o : Fin 4 → ℕ) (h : ∀ a, o a + S1x1x100x32.size a ≤ S2x1x100x32.size a)
    (p : Fin 3 → ℕ) (hp : ∀ a, p a + S1x1x32.size a ≤ S1x100x32.size a) : Memref sig .scVector .vmem S32 .f32 :=
  ((inSlot o h).slice (Rect.unit (s := S1x100x32) p S1x1x32.size hp) (fun _ => rfl)).squeeze S32 squeezes_S1x1x32_S32

/-- A cell of the incoming ring's counters. -/
abbrev inCell (o : Fin 1 → ℕ) (h : ∀ a, o a + S1.size a ≤ S2.size a) : DmaSem sig :=
  ((cc0_scoped1.slice (Rect.unit (s := S2) o S1.size h)).squeeze S_ squeezes_S1_S_).sem

/-- A cell of the outgoing ring's counters. -/
abbrev outCell (o : Fin 1 → ℕ) (h : ∀ a, o a + S1.size a ≤ S2.size a) : DmaSem sig :=
  ((cc0_scoped3.slice (Rect.unit (s := S2) o S1.size h)).squeeze S_ squeezes_S1_S_).sem

theorem cell_inb (n : ℕ) : ∀ a, (![n % 2] : Fin 1 → ℕ) a + S1.size a ≤ S2.size a := by
  intro a
  match a with
  | 0 => show n % 2 + 1 ≤ 2; omega

theorem in_inb (n : ℕ) : ∀ a, slot4 (n % 2) a + S1x1x100x32.size a ≤ S2x1x100x32.size a := by
  intro a
  match a with
  | 0 => show n % 2 + 1 ≤ 2; omega
  | 1 => show 0 + 1 ≤ 1; omega
  | 2 => show 0 + 100 ≤ 100; omega
  | 3 => show 0 + 32 ≤ 32; omega

/-- The cell counting the copies into the slot block `n` of the tile uses. -/
abbrev inSem (n : ℕ) : DmaSem sig := inCell ![n % 2] (cell_inb n)
/-- The cell counting the copies out of the slot block `n` of the tile uses. -/
abbrev outSem (n : ℕ) : DmaSem sig := outCell ![n % 2] (cell_inb n)

/-! ## Their elements -/

/-- The elements of the slot block `n` uses. -/
def inElems (n : ℕ) : Finset S2x1x100x32.Idx := Finset.univ.filter fun x => (x 0).val = n % 2
def outElems (n : ℕ) : Finset S2x1x100x16.Idx := Finset.univ.filter fun x => (x 0).val = n % 2
/-- The elements of a block. -/
def xElems (b : ℕ) : Finset S625x100x32.Idx := Finset.univ.filter fun x => (x 0).val = b
def yElems (b : ℕ) : Finset S625x100x16.Idx := Finset.univ.filter fun x => (x 0).val = b

theorem mem_inElems {n : ℕ} {x : S2x1x100x32.Idx} : x ∈ inElems n ↔ (x 0).val = n % 2 := by simp [inElems]
theorem mem_outElems {n : ℕ} {x : S2x1x100x16.Idx} : x ∈ outElems n ↔ (x 0).val = n % 2 := by simp [outElems]
theorem mem_xElems {b : ℕ} {x : S625x100x32.Idx} : x ∈ xElems b ↔ (x 0).val = b := by simp [xElems]
theorem mem_yElems {b : ℕ} {x : S625x100x16.Idx} : x ∈ yElems b ↔ (x 0).val = b := by simp [yElems]

theorem set_inSlot {n : ℕ} (h) : (inSlot (slot4 (n % 2)) h).view.set = inElems n := by
  rw [Memref.set_view_squeeze]
  show ((View.whole cc0_scoped0).slice _).set = _
  rw [View.set_slice_whole]
  ext x
  rw [mem_inElems]
  refine (Rect.mem_set_unit (s := S2x1x100x32)).trans ⟨fun H => ?_, fun H a => ?_⟩
  · have := H 0
    change n % 2 ≤ (x 0).val ∧ (x 0).val < n % 2 + 1 at this
    omega
  · match a with
    | 0 => exact show n % 2 ≤ (x 0).val ∧ (x 0).val < n % 2 + 1 by omega
    | 1 => exact show 0 ≤ (x 1).val ∧ (x 1).val < 0 + 1 from ⟨Nat.zero_le _, lt_of_lt_of_eq (x 1).isLt rfl⟩
    | 2 => exact show 0 ≤ (x 2).val ∧ (x 2).val < 0 + 100 from ⟨Nat.zero_le _, lt_of_lt_of_eq (x 2).isLt rfl⟩
    | 3 => exact show 0 ≤ (x 3).val ∧ (x 3).val < 0 + 32 from ⟨Nat.zero_le _, lt_of_lt_of_eq (x 3).isLt rfl⟩

theorem set_outSlot {n : ℕ} (h) : (outSlot (slot4 (n % 2)) h).view.set = outElems n := by
  rw [Memref.set_view_squeeze]
  show ((View.whole cc0_scoped2).slice _).set = _
  rw [View.set_slice_whole]
  ext x
  rw [mem_outElems]
  refine (Rect.mem_set_unit (s := S2x1x100x16)).trans ⟨fun H => ?_, fun H a => ?_⟩
  · have := H 0
    change n % 2 ≤ (x 0).val ∧ (x 0).val < n % 2 + 1 at this
    omega
  · match a with
    | 0 => exact show n % 2 ≤ (x 0).val ∧ (x 0).val < n % 2 + 1 by omega
    | 1 => exact show 0 ≤ (x 1).val ∧ (x 1).val < 0 + 1 from ⟨Nat.zero_le _, lt_of_lt_of_eq (x 1).isLt rfl⟩
    | 2 => exact show 0 ≤ (x 2).val ∧ (x 2).val < 0 + 100 from ⟨Nat.zero_le _, lt_of_lt_of_eq (x 2).isLt rfl⟩
    | 3 => exact show 0 ≤ (x 3).val ∧ (x 3).val < 0 + 16 from ⟨Nat.zero_le _, lt_of_lt_of_eq (x 3).isLt rfl⟩

theorem set_xBlock {b : ℕ} (h) : (xBlock (blk3 b) h).view.set = xElems b := by
  show ((View.whole main_v0_scv).slice _).set = _
  rw [View.set_slice_whole]
  ext x
  rw [mem_xElems]
  refine (Rect.mem_set_unit (s := S625x100x32)).trans ⟨fun H => ?_, fun H a => ?_⟩
  · have := H 0
    change b ≤ (x 0).val ∧ (x 0).val < b + 1 at this
    omega
  · match a with
    | 0 => exact show b ≤ (x 0).val ∧ (x 0).val < b + 1 by omega
    | 1 => exact show 0 ≤ (x 1).val ∧ (x 1).val < 0 + 100 from ⟨Nat.zero_le _, lt_of_lt_of_eq (x 1).isLt rfl⟩
    | 2 => exact show 0 ≤ (x 2).val ∧ (x 2).val < 0 + 32 from ⟨Nat.zero_le _, lt_of_lt_of_eq (x 2).isLt rfl⟩

theorem set_yBlock {b : ℕ} (h) : (yBlock (blk3 b) h).view.set = yElems b := by
  show ((View.whole main_v1_scv).slice _).set = _
  rw [View.set_slice_whole]
  ext x
  rw [mem_yElems]
  refine (Rect.mem_set_unit (s := S625x100x16)).trans ⟨fun H => ?_, fun H a => ?_⟩
  · have := H 0
    change b ≤ (x 0).val ∧ (x 0).val < b + 1 at this
    omega
  · match a with
    | 0 => exact show b ≤ (x 0).val ∧ (x 0).val < b + 1 by omega
    | 1 => exact show 0 ≤ (x 1).val ∧ (x 1).val < 0 + 100 from ⟨Nat.zero_le _, lt_of_lt_of_eq (x 1).isLt rfl⟩
    | 2 => exact show 0 ≤ (x 2).val ∧ (x 2).val < 0 + 16 from ⟨Nat.zero_le _, lt_of_lt_of_eq (x 2).isLt rfl⟩

/-! ## Coordinates -/

theorem emb_inSlot {n : ℕ} (h) (y : S1x100x32.Idx) :
    ∀ x : S2x1x100x32.Idx, (x 0).val = n % 2 → (x 2).val = (y 1).val → (x 3).val = (y 2).val →
      (inSlot (slot4 (n % 2)) h).view.emb y = x := by
  intro x h0 h2 h3
  show (Rect.unit (s := S2x1x100x32) (slot4 (n % 2)) S1x1x100x32.size h).emb (Shape.reshapeEquiv _ y) = x
  have e : Shape.reshapeEquiv (s := S1x1x100x32) (s' := S1x100x32) (by rfl) y = Fin.cons ⟨0, Nat.one_pos⟩ y := Shape.reshapeEquiv_cons_one _ y
  rw [e]
  have hy0 : (y 0).val < 1 := (y 0).isLt
  have hx1 : (x 1).val < 1 := (x 1).isLt
  funext a
  refine Fin.ext ?_
  rw [Rect.emb_apply]
  match a with
  | 0 => show n % 2 + 1 * 0 = (x 0).val; omega
  | 1 => show 0 + 1 * (y 0).val = (x 1).val; omega
  | 2 => show 0 + 1 * (y 1).val = (x 2).val; omega
  | 3 => show 0 + 1 * (y 2).val = (x 3).val; omega

theorem emb_outSlot {n : ℕ} (h) (y : S1x100x16.Idx) :
    ∀ x : S2x1x100x16.Idx, (x 0).val = n % 2 → (x 2).val = (y 1).val → (x 3).val = (y 2).val →
      (outSlot (slot4 (n % 2)) h).view.emb y = x := by
  intro x h0 h2 h3
  show (Rect.unit (s := S2x1x100x16) (slot4 (n % 2)) S1x1x100x16.size h).emb (Shape.reshapeEquiv _ y) = x
  have e : Shape.reshapeEquiv (s := S1x1x100x16) (s' := S1x100x16) (by rfl) y = Fin.cons ⟨0, Nat.one_pos⟩ y := Shape.reshapeEquiv_cons_one _ y
  rw [e]
  have hy0 : (y 0).val < 1 := (y 0).isLt
  have hx1 : (x 1).val < 1 := (x 1).isLt
  funext a
  refine Fin.ext ?_
  rw [Rect.emb_apply]
  match a with
  | 0 => show n % 2 + 1 * 0 = (x 0).val; omega
  | 1 => show 0 + 1 * (y 0).val = (x 1).val; omega
  | 2 => show 0 + 1 * (y 1).val = (x 2).val; omega
  | 3 => show 0 + 1 * (y 2).val = (x 3).val; omega

theorem emb_xBlock {b : ℕ} (h) (y : S1x100x32.Idx) :
    ∀ z : S625x100x32.Idx, (z 0).val = b → (z 1).val = (y 1).val → (z 2).val = (y 2).val →
      (xBlock (blk3 b) h).view.emb y = z := by
  intro z h0 h1 h2
  show (Rect.unit (s := S625x100x32) (blk3 b) S1x100x32.size h).emb y = z
  have hy0 : (y 0).val < 1 := (y 0).isLt
  funext a
  refine Fin.ext ?_
  rw [Rect.emb_apply]
  match a with
  | 0 => show b + 1 * (y 0).val = (z 0).val; omega
  | 1 => show 0 + 1 * (y 1).val = (z 1).val; omega
  | 2 => show 0 + 1 * (y 2).val = (z 2).val; omega

theorem emb_yBlock {b : ℕ} (h) (y : S1x100x16.Idx) :
    ∀ z : S625x100x16.Idx, (z 0).val = b → (z 1).val = (y 1).val → (z 2).val = (y 2).val →
      (yBlock (blk3 b) h).view.emb y = z := by
  intro z h0 h1 h2
  show (Rect.unit (s := S625x100x16) (blk3 b) S1x100x16.size h).emb y = z
  have hy0 : (y 0).val < 1 := (y 0).isLt
  funext a
  refine Fin.ext ?_
  rw [Rect.emb_apply]
  match a with
  | 0 => show b + 1 * (y 0).val = (z 0).val; omega
  | 1 => show 0 + 1 * (y 1).val = (z 1).val; omega
  | 2 => show 0 + 1 * (y 2).val = (z 2).val; omega

theorem emb_inRow {n r : ℕ} (h) (hp) (y : S32.Idx) :
    ∀ x : S2x1x100x32.Idx, (x 0).val = n % 2 → (x 2).val = r → (x 3).val = (y 0).val →
      (inRow (slot4 (n % 2)) h ![0, r, 0] hp).view.emb y = x := by
  intro x h0 h2 h3
  show (inSlot (slot4 (n % 2)) h).view.emb ((Rect.unit (s := S1x100x32) ![0, r, 0] S1x1x32.size hp).emb (Shape.reshapeEquiv _ y)) = x
  have e : Shape.reshapeEquiv (s := S1x1x32) (s' := S32) (by rfl) y
      = (ix3 (⟨0, Nat.one_pos⟩ : Fin 1) (⟨0, Nat.one_pos⟩ : Fin 1) (y 0) : S1x1x32.Idx) :=
    Shape.reshapeEquiv_eq_of_rowMajor _ (by
      rw [Shape.rowMajor_val_three, Shape.rowMajor_val_one]
      show (0 * 1 + 0) * 32 + (y 0).val = (y 0).val
      omega)
  rw [e]
  refine emb_inSlot h _ x h0 ?_ ?_
  · rw [Rect.emb_apply]
    show (x 2).val = r + 1 * 0
    omega
  · rw [Rect.emb_apply]
    show (x 3).val = 0 + 1 * (y 0).val
    omega

theorem emb_outRow {n r : ℕ} (h) (hp : ∀ a, (![0, r, 0] : Fin 3 → ℕ) a + S1x1x16.size a ≤ S1x100x16.size a) (y : S1x1x16.Idx) :
    ∀ x : S2x1x100x16.Idx, (x 0).val = n % 2 → (x 2).val = r → (x 3).val = (y 2).val →
      ((outSlot (slot4 (n % 2)) h).access (Rect.unit (s := S1x100x16) ![0, r, 0] S1x1x16.size hp)).emb y = x := by
  intro x h0 h2 h3
  show (outSlot (slot4 (n % 2)) h).view.emb ((Rect.unit (s := S1x100x16) ![0, r, 0] S1x1x16.size hp).emb y) = x
  have hy1 : (y 1).val < 1 := (y 1).isLt
  refine emb_outSlot h _ x h0 ?_ ?_
  · rw [Rect.emb_apply]
    show (x 2).val = r + 1 * (y 1).val
    omega
  · rw [Rect.emb_apply]
    show (x 3).val = 0 + 1 * (y 2).val
    omega

/-! ## The values -/

/-- What a row's pair of lanes becomes: a thousand if the first lies within three of zero and the
    second within one and a half, else zero. -/
def pay (e o : F .f32) : F .f32 := k0_pay3 (F := F) (fun _ => e) (fun _ => o) (ix1 (0 : Fin 16))

theorem pay3_apply (v w : Vec F S16 .f32) (j : S16.Idx) : k0_pay3 v w j = pay (v j) (w j) := rfl

/-- The block array the kernel owes, from the one it is given: lane `l` of a row is decided by the
    row's words `2 l` and `2 l + 1`. -/
def want (X : S625x100x32.Idx → Elt F .f32) : S625x100x16.Idx → Elt F .f32 := fun z =>
  pay (X (ix3 (z 0) (z 1) ⟨2 * (z 2).val, by have : (z 2).val < 16 := (z 2).isLt; show _ < 32; omega⟩))
    (X (ix3 (z 0) (z 1) ⟨2 * (z 2).val + 1, by have : (z 2).val < 16 := (z 2).isLt; show _ < 32; omega⟩))

/-- The incoming slot of block `n` of the tile holds block `b` of the array. -/
def HoldsIn (n b : ℕ) (X : S625x100x32.Idx → Elt F .f32) (g : S2x1x100x32.Idx → Elt F .f32) : Prop :=
  ∀ (x : S2x1x100x32.Idx) (z : S625x100x32.Idx), (x 0).val = n % 2 → (z 0).val = b → (z 1).val = (x 2).val →
    (z 2).val = (x 3).val → g x = X z

/-- The outgoing slot of block `n` of the tile holds the first `r` rows of what is wanted of block `b`. -/
def HoldsOut (n b r : ℕ) (X : S625x100x32.Idx → Elt F .f32) (f : S2x1x100x16.Idx → Elt F .f32) : Prop :=
  ∀ (x : S2x1x100x16.Idx) (z : S625x100x16.Idx), (x 0).val = n % 2 → (x 2).val < r → (z 0).val = b →
    (z 1).val = (x 2).val → (z 2).val = (x 3).val → f x = want X z

theorem holdsIn_copy {n b : ℕ} (h) (h') (X : S625x100x32.Idx → Elt F .f32)
    (g : (inSlot (slot4 (n % 2)) h).view.ty.Contents (Elt F)) :
    HoldsIn n b X ((inSlot (slot4 (n % 2)) h).view.write (Elt F) g ((xBlock (blk3 b) h').view.read (Elt F) X) Finset.univ) := by
  intro x z hx hz h1 h2
  have ex := emb_inSlot (n := n) h (ix3 (0 : Fin 1) (x 2) (x 3) : S1x100x32.Idx) x hx rfl rfl
  have ez := emb_xBlock (b := b) h' (ix3 (0 : Fin 1) (x 2) (x 3) : S1x100x32.Idx) z hz h1 h2
  refine (congrArg _ ex.symm).trans ?_
  rw [View.write_emb_of_mem _ _ (Finset.mem_univ _), View.read_apply]
  exact congrArg X ez

theorem want_copy {n b : ℕ} (h) (h') (X : S625x100x32.Idx → Elt F .f32) (Y : S625x100x16.Idx → Elt F .f32)
    (f : S2x1x100x16.Idx → Elt F .f32) (hf : HoldsOut n b 100 X f) :
    ∀ z ∈ yElems b, (yBlock (blk3 b) h').view.write (Elt F) Y ((outSlot (slot4 (n % 2)) h).view.read (Elt F) f) Finset.univ z = want X z := by
  intro z hz
  rw [mem_yElems] at hz
  have hn : n % 2 < 2 := Nat.mod_lt _ (by omega)
  have ez := emb_yBlock (b := b) h' (ix3 (0 : Fin 1) (z 1) (z 2) : S1x100x16.Idx) z hz rfl rfl
  have ex := emb_outSlot (n := n) h (ix3 (0 : Fin 1) (z 1) (z 2) : S1x100x16.Idx)
    (ix4 (⟨n % 2, hn⟩ : Fin 2) (0 : Fin 1) (z 1) (z 2)) rfl rfl rfl
  refine (congrArg _ ez.symm).trans ?_
  rw [View.write_emb_of_mem _ _ (Finset.mem_univ _), View.read_apply]
  refine (congrArg f ex).trans ?_
  exact hf _ z rfl (z 1).isLt hz rfl rfl

/-- A lane gathered from a row of a slot that holds block `b`. -/
theorem gather_lane {n b r : ℕ} (h) (hp) (X : S625x100x32.Idx → Elt F .f32) (g : S2x1x100x32.Idx → Elt F .f32) (hg : HoldsIn n b X g)
    (w : IVec S16 32) (hw : ∀ a x, ((![w] : Fin 1 → IVec S16 32) a x).toNat < S32.size a) (j : S16.Idx) (z : S625x100x32.Idx)
    (hz : (z 0).val = b) (h1 : (z 1).val = r) (h2 : (z 2).val = (w j).toNat) :
    loadIdx (((inRow (slot4 (n % 2)) h ![0, r, 0] hp).access (.whole S32)).read (Elt F) g) ![w] hw j = X z := by
  have hn : n % 2 < 2 := Nat.mod_lt _ (by omega)
  have ex := emb_inRow (n := n) (r := r) h hp ((Rect.whole S32).emb (idxAt ![w] hw j))
    (ix4 (⟨n % 2, hn⟩ : Fin 2) (0 : Fin 1) (z 1) (z 2)) rfl h1 (by
      rw [Rect.emb_apply]
      show (z 2).val = 0 + 1 * (w j).toNat
      omega)
  unfold loadIdx
  rw [View.read_apply]
  refine (congrArg g ex).trans ?_
  exact hg _ z rfl hz rfl rfl

/-- A row stored: one more row of the slot holds what is wanted. -/
theorem holdsOut_row {n b r : ℕ} (h : ∀ a, slot4 (n % 2) a + S1x1x100x16.size a ≤ S2x1x100x16.size a)
    (hp : ∀ a, (![0, r, 0] : Fin 3 → ℕ) a + S1x1x16.size a ≤ S1x100x16.size a)
    (X : S625x100x32.Idx → Elt F .f32) (f : (outSlot (slot4 (n % 2)) h).view.ty.Contents (Elt F)) (hf : HoldsOut n b r X f) (hr : r < 100)
    (v : FVec F S16 .f32) (hv : ∀ (j : S16.Idx) (z : S625x100x16.Idx), (z 0).val = b → (z 1).val = r → (z 2).val = (j 0).val → v j = want X z) :
    HoldsOut n b (r + 1) X (((outSlot (slot4 (n % 2)) h).access (Rect.unit (s := S1x100x16) ![0, r, 0] S1x1x16.size hp)).write (Elt F) f
      (shapeCast S1x1x16 v shapeCasts_S16_S1x1x16) Finset.univ) := by
  intro x z hx hxr hz h1 h2
  by_cases hlt : (x 2).val < r
  · rw [View.write_of_not_mem]
    · exact hf x z hx hlt hz h1 h2
    · intro hm
      obtain ⟨y, -, hy⟩ := Finset.mem_map.mp hm
      have hn : n % 2 < 2 := Nat.mod_lt _ (by omega)
      have e := emb_outRow (n := n) h hp y (ix4 (⟨n % 2, hn⟩ : Fin 2) (0 : Fin 1) (⟨r, hr⟩ : Fin 100) (y 2)) rfl rfl rfl
      have e2 := congrArg (fun q : S2x1x100x16.Idx => (q 2).val) (e.symm.trans hy)
      have e3 : r = (x 2).val := e2
      omega
  · have hxr' : (x 2).val = r := by omega
    have ex := emb_outRow (n := n) h hp (ix3 (0 : Fin 1) (0 : Fin 1) (x 3) : S1x1x16.Idx) x hx hxr' rfl
    refine (congrArg _ ex.symm).trans ?_
    rw [View.write_emb_of_mem _ _ (Finset.mem_univ _)]
    show shapeCast S1x1x16 v shapeCasts_S16_S1x1x16 (ix3 (0 : Fin 1) (0 : Fin 1) (x 3)) = want X z
    rw [shapeCast_apply v shapeCasts_S16_S1x1x16 _ (ix1 (x 3)) (by
      rw [Shape.rowMajor_val_three, Shape.rowMajor_val_one]
      show (x 3).val = (0 * 1 + 0) * 16 + (x 3).val
      omega)]
    exact hv _ z hz (h1.trans hxr') h2

end Cert.KernelIdeal.Tile

end
-- ==== Proof.KI.Steps.lean ====
/- A tile's copies one by one: starting and awaiting a copy in, starting and awaiting a copy out,
   each over the elements of one slot and one block, with the values they carry. -/
module

public import proofs.«01_k».proof.Proof.KI.Geom
public import Idealize.ShloMosaic.Lib.SparseCore.Quiescent
public import Idealize.ShloMosaic.Lib.Transfers
public import Idealize.ShloMosaic.Lib.Tactic

@[expose] public section

noncomputable section

namespace Cert.KernelIdeal.Tile

open Idealize.ShloMosaic Idealize.ShloMosaic.ValueIdx
open Cert.KernelIdeal Cert.KernelIdeal.Gen
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The user algebra: the launch's rounds, and the counters of the copies in flight. -/
abbrev UH : Type := URounds (GSem nD τ sig) ℕ
abbrev UU : Type := UH × Counters

local notation "𝕄" => MT nD τ sig (HIx 1) (Elt F) ℕ UU ℕ

abbrev 𝒱₀ : Variants := Variants.none

/-- The tile's thread. -/
abbrev th (d : Dev nD) (i : grid0.Coords) : Thread nD τ := V d ((i 0).castLE hcore0) ((i 1).castLE hsub0)

variable (d : Dev nD) (i : grid0.Coords)

/-- The tile's locations: the two arrays, and the two rings. -/
abbrev xL : Loc nD τ sig := (Memref.whole main_v0_scv : Memref sig (th d i).2.kind .hbm S625x100x32 .f32).view.loc (th d i)
abbrev yL : Loc nD τ sig := (Memref.whole main_v1_scv : Memref sig (th d i).2.kind .hbm S625x100x16 .f32).view.loc (th d i)
abbrev inL : Loc nD τ sig := (Memref.whole cc0_scoped0 : Memref sig (th d i).2.kind .vmem S2x1x100x32 .f32).view.loc (th d i)
abbrev outL : Loc nD τ sig := (Memref.whole cc0_scoped2 : Memref sig (th d i).2.kind .vmem S2x1x100x16 .f32).view.loc (th d i)

abbrev EC : UEmb Counters 𝕄 := countersEmb (U := UU)

/-- What a copy in counts, and a copy out. -/
abbrev NIn : ℕ := sig.dmaCredit .scVector (Kind.scVector.table .vmem) cc0_scoped0.idx S1x100x32 .f32
abbrev NOut : ℕ := sig.dmaCredit .scVector (Kind.scVector.table .hbm) main_v1_scv.idx S1x100x16 .f32
theorem NIn_pos : 0 < NIn := sig.dmaCredit_pos _ _ _ _ _ (by decide)
theorem NOut_pos : 0 < NOut := sig.dmaCredit_pos _ _ _ _ _ (by decide)

variable [FloatOps F]
variable (X : S625x100x32.Idx → Elt F .f32)

/-- What a landed copy in leaves: the slot, holding the block, and the block's elements back. -/
def inLanded (n b : ℕ) : sProp 𝕄 :=
  iprop((∃ g : S2x1x100x32.Idx → Elt F .f32, ⌜HoldsIn n b X g⌝ ∗ (inL d i ↦[inElems n]{fullShare} g)) ∗ (xL d i ↦[xElems b]{fullShare} X))

/-- What a landed copy out leaves: the slot back, and the block as wanted. -/
def outLanded (n b : ℕ) : sProp 𝕄 :=
  iprop((∃ f : S2x1x100x16.Idx → Elt F .f32, (outL d i ↦[outElems n]{fullShare} f)) ∗ (yL d i ↦[yElems b]{fullShare} want X))

/-- The copies in flight. -/
def inFlight (n b : ℕ) : sProp 𝕄 :=
  Transfers.Flight EC (th d i) (.dma (inSem n)) none NIn (inLanded d i X n b)
def outFlight (n b : ℕ) : sProp 𝕄 :=
  Transfers.Flight EC (th d i) (.dma (outSem n)) none NOut (outLanded d i X n b)

/-- A free slot of either ring, its counter at zero. -/
def inFree (n : ℕ) : sProp 𝕄 :=
  iprop((∃ g : S2x1x100x32.Idx → Elt F .f32, (inL d i ↦[inElems n]{fullShare} g)) ∗ semVal (th d i, SemLoc.dma (inSem n)) 0)
def outFree (n : ℕ) : sProp 𝕄 :=
  iprop((∃ f : S2x1x100x16.Idx → Elt F .f32, (outL d i ↦[outElems n]{fullShare} f)) ∗ semVal (th d i, SemLoc.dma (outSem n)) 0)

variable {α : Type}

/-- Starting the copy of block `b` into a free slot. -/
theorem start_in {n b : ℕ} {oi : Fin 4 → ℕ} {hi} {ox : Fin 3 → ℕ} {hx} {os : Fin 1 → ℕ} {hs}
    (ei : oi = slot4 (n % 2)) (ex : ox = blk3 b) (es : os = ![n % 2]) {hsrc hdst hsem}
    {k : PUnit → Prog (TpuEff nD τ sig (Elt F) Λ₀ (th d i).2) α} {Q : α → sProp 𝕄} :
    iprop((xL d i ↦[xElems b]{fullShare} X) ∗ inFree d i n)
      ⊢ iprop((inFlight d i X n b -∗ wp frame (wpE defs₀ 𝒱₀ (th d i) none) Set.univ (k ⟨⟩) Q)
        -∗ wp frame (wpE defs₀ 𝒱₀ (th d i) none) Set.univ
          (.op (.enqueueDma (xBlock ox hx) (.here (inSlot oi hi)) (.dma (inCell os hs)) hsrc hdst hsem) k) Q) := by
  subst ei ex es
  unfold inFree inFlight
  iintro ⟨Hx, ⟨%g, Hi⟩, Hs⟩ Hk
  have hsl := set_inSlot (n := n) hi
  have hbl := set_xBlock (b := b) hx
  have hm : iprop((inL d i ↦[inElems n]{fullShare} ((inSlot (slot4 (n % 2)) hi).view.write (Elt F) g
        ((xBlock (blk3 b) hx).view.read (Elt F) X) Finset.univ)) ∗ (xL d i ↦[(xBlock (blk3 b) hx).view.set]{fullShare} X))
      ⊢ (inLanded d i X n b : sProp 𝕄) := by
    rw [hbl]
    unfold inLanded
    iintro ⟨Hi, Hx⟩
    isplitl [Hi]
    · iexists _
      isplitr
      · ipureintro; exact holdsIn_copy hi hx X g
      iexact Hi
    iexact Hx
  iapply (Transfers.wp_dmaLocal EC 𝒱₀ (th d i) none (src := xBlock (blk3 b) hx) (dst := inSlot (slot4 (n % 2)) hi) (q := fullShare)
    (fs := X) (Sd := inElems n) (fd := g) (none : HIx 1) NIn rfl NIn_pos (by rw [hsl])) $$ [Hx Hi Hs]
  · rw [hbl]
    isplitl [Hx]; · iexact Hx
    isplitl [Hi]; · iexact Hi
    iexact Hs
  iintro Hf
  iapply Hk
  iapply (Transfers.Flight_mono EC (th d i) hm) $$ Hf

/-- Starting the copy of a filled slot out to block `b`. -/
theorem start_out {n b : ℕ} {oi : Fin 4 → ℕ} {hi} {ox : Fin 3 → ℕ} {hx} {os : Fin 1 → ℕ} {hs}
    (ei : oi = slot4 (n % 2)) (ex : ox = blk3 b) (es : os = ![n % 2]) {hsrc hdst hsem}
    {k : PUnit → Prog (TpuEff nD τ sig (Elt F) Λ₀ (th d i).2) α} {Q : α → sProp 𝕄} (Y : S625x100x16.Idx → Elt F .f32)
    (f : S2x1x100x16.Idx → Elt F .f32) (hf : HoldsOut n b 100 X f) :
    iprop((outL d i ↦[outElems n]{fullShare} f) ∗ (yL d i ↦[yElems b]{fullShare} Y) ∗ semVal (th d i, SemLoc.dma (outSem n)) 0)
      ⊢ iprop((outFlight d i X n b -∗ wp frame (wpE defs₀ 𝒱₀ (th d i) none) Set.univ (k ⟨⟩) Q)
        -∗ wp frame (wpE defs₀ 𝒱₀ (th d i) none) Set.univ
          (.op (.enqueueDma (outSlot oi hi) (.here (yBlock ox hx)) (.dma (outCell os hs)) hsrc hdst hsem) k) Q) := by
  subst ei ex es
  unfold outFlight
  iintro ⟨Ho, Hy, Hs⟩ Hk
  have hsl := set_outSlot (n := n) hi
  have hbl := set_yBlock (b := b) hx
  have hm : iprop((yL d i ↦[yElems b]{fullShare} ((yBlock (blk3 b) hx).view.write (Elt F) Y
        ((outSlot (slot4 (n % 2)) hi).view.read (Elt F) f) Finset.univ)) ∗ (outL d i ↦[(outSlot (slot4 (n % 2)) hi).view.set]{fullShare} f))
      ⊢ (outLanded d i X n b : sProp 𝕄) := by
    rw [hsl]
    unfold outLanded
    iintro ⟨Hy, Ho⟩
    isplitl [Ho]
    · iexists _
      iexact Ho
    iapply (Entails.of_eq (pointsTo_congr (want_copy hi hx X Y f hf))) $$ Hy
  iapply (Transfers.wp_dmaLocal EC 𝒱₀ (th d i) none (src := outSlot (slot4 (n % 2)) hi) (dst := yBlock (blk3 b) hx) (q := fullShare)
    (fs := f) (Sd := yElems b) (fd := Y) (none : HIx 1) NOut rfl NOut_pos (by rw [hbl])) $$ [Ho Hy Hs]
  · rw [hsl]
    isplitl [Ho]; · iexact Ho
    isplitl [Hy]; · iexact Hy
    iexact Hs
  iintro Hf
  iapply Hk
  iapply (Transfers.Flight_mono EC (th d i) hm) $$ Hf

/-- Awaiting the copy into a slot. -/
theorem await_in {n b : ℕ} {os : Fin 1 → ℕ} {hs} (es : os = ![n % 2]) {ox hx oi hi} {hsrc hdst}
    {k : PUnit → Prog (TpuEff nD τ sig (Elt F) Λ₀ (th d i).2) α} {Q : α → sProp 𝕄} {O : CellTallies nD τ sig (HIx 1)} {W : Waits sig (HIx 1)} :
    iprop(inFlight d i X n b ∗ owes (th d i) O W ∗ MayWait (th d i) (.dma (inSem n)) (none : HIx 1) O)
      ⊢ iprop((iprop(inLanded d i X n b ∗ semVal (th d i, SemLoc.dma (inSem n)) 0 ∗ owes (th d i) O (insert (SemLoc.dma (inSem n), none) W))
          -∗ wp frame (wpE defs₀ 𝒱₀ (th d i) none) Set.univ (k ⟨⟩) Q)
        -∗ wp frame (wpE defs₀ 𝒱₀ (th d i) none) Set.univ
          (.op (.waitDma2 (inCell os hs) (xBlock ox hx) (inSlot oi hi) hsrc hdst) k) Q) := by
  subst es
  unfold inFlight
  exact Transfers.wp_waitLocalO EC 𝒱₀ (th d i) none (srcw := xBlock ox hx) (dstw := inSlot oi hi) (none : HIx 1) rfl

/-- Awaiting the copy out of a slot. -/
theorem await_out {n b : ℕ} {os : Fin 1 → ℕ} {hs} (es : os = ![n % 2]) {ox hx oi hi} {hsrc hdst}
    {k : PUnit → Prog (TpuEff nD τ sig (Elt F) Λ₀ (th d i).2) α} {Q : α → sProp 𝕄} {O : CellTallies nD τ sig (HIx 1)} {W : Waits sig (HIx 1)} :
    iprop(outFlight d i X n b ∗ owes (th d i) O W ∗ MayWait (th d i) (.dma (outSem n)) (none : HIx 1) O)
      ⊢ iprop((iprop(outLanded d i X n b ∗ semVal (th d i, SemLoc.dma (outSem n)) 0 ∗ owes (th d i) O (insert (SemLoc.dma (outSem n), none) W))
          -∗ wp frame (wpE defs₀ 𝒱₀ (th d i) none) Set.univ (k ⟨⟩) Q)
        -∗ wp frame (wpE defs₀ 𝒱₀ (th d i) none) Set.univ
          (.op (.waitDma2 (outCell os hs) (outSlot oi hi) (yBlock ox hx) hsrc hdst) k) Q) := by
  subst es
  unfold outFlight
  exact Transfers.wp_waitLocalO EC 𝒱₀ (th d i) none (srcw := outSlot oi hi) (dstw := yBlock ox hx) (none : HIx 1) rfl

/-! ## A row -/

/-- A row gathered, decided and stored: one more row of the outgoing slot holds what is wanted. -/
theorem row_step {n b r : ℕ} {o10 : Fin 4 → ℕ} {h10} {o12 : Fin 4 → ℕ} {h12} {o11 : Fin 3 → ℕ} {h11} {o13 : Fin 3 → ℕ} {h13}
    {o14 : Fin 4 → ℕ} {h14} {o15 : Fin 3 → ℕ} {h15 : ∀ a, o15 a + S1x1x16.size a ≤ S1x100x16.size a}
    (e10 : o10 = slot4 (n % 2)) (e12 : o12 = slot4 (n % 2)) (e14 : o14 = slot4 (n % 2))
    (e11 : o11 = ![0, r, 0]) (e13 : o13 = ![0, r, 0]) (e15 : o15 = ![0, r, 0]) (hb : b < 625) (hr : r < 100)
    {w3 w4 hl3 hl4 hl5 hst hu}
    (g : S2x1x100x32.Idx → Elt F .f32) (hg : HoldsIn n b X g) {kk : PUnit → Prog (TpuEff nD τ sig (Elt F) Λ₀ (th d i).2) α} {Q : α → sProp 𝕄} :
    iprop((inL d i ↦[inElems n]{fullShare} g) ∗ (∃ f : S2x1x100x16.Idx → Elt F .f32, ⌜HoldsOut n b r X f⌝ ∗ (outL d i ↦[outElems n]{fullShare} f)))
      ⊢ iprop((iprop((inL d i ↦[inElems n]{fullShare} g) ∗ (∃ f : S2x1x100x16.Idx → Elt F .f32, ⌜HoldsOut n b (r + 1) X f⌝ ∗ (outL d i ↦[outElems n]{fullShare} f)))
          -∗ wp frame (wpE defs₀ 𝒱₀ (th d i) none) Set.univ (kk ⟨⟩) Q)
        -∗ wp frame (wpE defs₀ 𝒱₀ (th d i) none) Set.univ
          (SparseCore.vectorLoadIdx (inRow o10 h10 o11 h11) ![k0_pay1] w3 hl3 >>= fun e =>
            SparseCore.vectorLoadIdx (inRow o12 h12 o13 h13) ![k0_pay2 k0_pay1] w4 hl4 >>= fun o =>
              .op (.load (outSlot o14 h14) (Rect.unit (s := S1x100x16) o15 S1x1x16.size h15).toLoadRect hl5) fun _ =>
                .op (.store (outSlot o14 h14) (Rect.unit (s := S1x100x16) o15 S1x1x16.size h15)
                  (shapeCast S1x1x16 (k0_pay3 (F := F) e o) shapeCasts_S16_S1x1x16) Finset.univ hst hu) kk) Q) := by
  subst e10 e12 e14 e11 e13 e15
  iintro ⟨Hi, ⟨%f, %hf, Ho⟩⟩ Hk
  have hsub : ∀ (h : ∀ a, slot4 (n % 2) a + S1x1x100x32.size a ≤ S2x1x100x32.size a)
      (h' : ∀ a, (![0, r, 0] : Fin 3 → ℕ) a + S1x1x32.size a ≤ S1x100x32.size a), ((inRow (slot4 (n % 2)) h ![0, r, 0] h').access (.whole S32)).set ⊆ inElems n := by
    intro h h'
    rw [← set_inSlot (n := n) h]
    refine (View.set_slice_subset _ _).trans ?_
    rw [Memref.set_view_squeeze]
    exact View.set_slice_subset _ _
  have hsubo : ((outSlot (slot4 (n % 2)) h14).access (Rect.unit (s := S1x100x16) ![0, r, 0] S1x1x16.size h15)).set ⊆ outElems n := by
    rw [← set_outSlot (n := n) h14]
    exact View.set_slice_subset _ _
  iapply (SparseCore.wp_vectorLoadIdx 𝒱₀ (th d i) none Set.univ (base := inRow (slot4 (n % 2)) h10 ![0, r, 0] h11) (S := inElems n) (f := g) (hsub _ _)) $$ Hi
  iintro Hi
  iapply (SparseCore.wp_vectorLoadIdx 𝒱₀ (th d i) none Set.univ (base := inRow (slot4 (n % 2)) h12 ![0, r, 0] h13) (S := inElems n) (f := g) (hsub _ _)) $$ Hi
  iintro Hi
  iapply (wp_load 𝒱₀ (th d i) none Set.univ (m := outSlot (slot4 (n % 2)) h14) (S := outElems n) (f := f) (by
    rw [← set_outSlot (n := n) h14]; exact View.setOn_subset_set _ _)) $$ Ho
  iintro Ho
  iapply (wp_store 𝒱₀ (th d i) none Set.univ (m := outSlot (slot4 (n % 2)) h14) (r := Rect.unit (s := S1x100x16) ![0, r, 0] S1x1x16.size h15)
    (Mk := Finset.univ) (S := outElems n) (f := f) hsubo) $$ Ho
  iintro Ho
  iapply Hk
  isplitl [Hi]; · iexact Hi
  iexists (((outSlot (slot4 (n % 2)) h14).access (Rect.unit (s := S1x100x16) ![0, r, 0] S1x1x16.size h15)).write (Elt F) f
    (shapeCast S1x1x16 (k0_pay3 (F := F)
      (loadIdx (((inRow (slot4 (n % 2)) h10 ![0, r, 0] h11).access (.whole S32)).read (Elt F) g) ![k0_pay1] w3)
      (loadIdx (((inRow (slot4 (n % 2)) h12 ![0, r, 0] h13).access (.whole S32)).read (Elt F) g) ![k0_pay2 k0_pay1] w4)) shapeCasts_S16_S1x1x16)
    Finset.univ)
  isplitr
  · ipureintro
    refine holdsOut_row h14 h15 X f hf hr _ ?_
    intro j z hz0 hz1 hz2
    rw [pay3_apply]
    unfold want
    refine congrArg₂ pay ?_ ?_
    · refine gather_lane h10 h11 X g hg _ _ j _ hz0 hz1 ?_
      rw [lane_even, ← hz2]
    · refine gather_lane h12 h13 X g hg _ _ j _ hz0 hz1 ?_
      rw [lane_odd, ← hz2]
  iexact Ho

end Cert.KernelIdeal.Tile

end
-- ==== Proof.KI.Trip.lean ====
/- One trip of a tile's loop over its blocks. -/
module

public import proofs.«01_k».proof.Proof.KI.Steps

@[expose] public section

noncomputable section

namespace Cert.KernelIdeal.Tile

open Idealize.ShloMosaic Idealize.ShloMosaic.ValueIdx
open Cert.KernelIdeal Cert.KernelIdeal.Gen
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (d : Dev nD) (i : grid0.Coords)

/-! ## The elements a tile holds -/

/-- The tile's part of the array read, but for block `t` of the tile (all of it once `t` is past the last). -/
def xHeld (t : ℕ) : Finset S625x100x32.Idx :=
  Finset.univ.filter fun x => base i ≤ (x 0).val ∧ (x 0).val < base i + cnt i ∧ (x 0).val ≠ base i + t
/-- The same, but for the next block too. -/
def xMid (t : ℕ) : Finset S625x100x32.Idx :=
  Finset.univ.filter fun x => base i ≤ (x 0).val ∧ (x 0).val < base i + cnt i ∧ (x 0).val ≠ base i + t ∧ (x 0).val ≠ base i + (t + 1)
/-- The blocks of the array written that have landed by trip `t`, and those not begun. -/
def yDone (t : ℕ) : Finset S625x100x16.Idx :=
  Finset.univ.filter fun x => base i ≤ (x 0).val ∧ (x 0).val + 1 < base i + t
def yTodo (t : ℕ) : Finset S625x100x16.Idx :=
  Finset.univ.filter fun x => base i + t ≤ (x 0).val ∧ (x 0).val < base i + cnt i

theorem mem_xHeld {t : ℕ} {x : S625x100x32.Idx} :
    x ∈ xHeld i t ↔ base i ≤ (x 0).val ∧ (x 0).val < base i + cnt i ∧ (x 0).val ≠ base i + t := by simp [xHeld]
theorem mem_xMid {t : ℕ} {x : S625x100x32.Idx} :
    x ∈ xMid i t ↔ base i ≤ (x 0).val ∧ (x 0).val < base i + cnt i ∧ (x 0).val ≠ base i + t ∧ (x 0).val ≠ base i + (t + 1) := by
  simp [xMid]
theorem mem_yDone {t : ℕ} {x : S625x100x16.Idx} : x ∈ yDone i t ↔ base i ≤ (x 0).val ∧ (x 0).val + 1 < base i + t := by simp [yDone]
theorem mem_yTodo {t : ℕ} {x : S625x100x16.Idx} : x ∈ yTodo i t ↔ base i + t ≤ (x 0).val ∧ (x 0).val < base i + cnt i := by simp [yTodo]

theorem xHeld_eq {t : ℕ} (h : t + 1 < cnt i) : xHeld i t = xMid i t ∪ xElems (base i + (t + 1)) := by
  ext x; rw [Finset.mem_union, mem_xHeld, mem_xMid, mem_xElems]; omega
theorem xHeld_dis (t : ℕ) : Disjoint (xMid i t) (xElems (base i + (t + 1))) :=
  Finset.disjoint_left.mpr fun x h h' => by rw [mem_xMid] at h; rw [mem_xElems] at h'; omega
theorem xHeld_next {t : ℕ} (h : t + 1 < cnt i) : xHeld i (t + 1) = xMid i t ∪ xElems (base i + t) := by
  ext x; rw [Finset.mem_union, mem_xHeld, mem_xMid, mem_xElems]; omega
theorem xHeld_next_dis (t : ℕ) : Disjoint (xMid i t) (xElems (base i + t)) :=
  Finset.disjoint_left.mpr fun x h h' => by rw [mem_xMid] at h; rw [mem_xElems] at h'; omega
theorem xHeld_last {t : ℕ} (h : t < cnt i) {t' : ℕ} (h' : cnt i ≤ t') : xHeld i t' = xHeld i t ∪ xElems (base i + t) := by
  ext x; rw [Finset.mem_union, mem_xHeld, mem_xHeld, mem_xElems]; omega
theorem xHeld_last_dis (t : ℕ) : Disjoint (xHeld i t) (xElems (base i + t)) :=
  Finset.disjoint_left.mpr fun x h h' => by rw [mem_xHeld] at h; rw [mem_xElems] at h'; omega
theorem yTodo_eq {t : ℕ} (h : t < cnt i) : yTodo i t = yElems (base i + t) ∪ yTodo i (t + 1) := by
  ext x; rw [Finset.mem_union, mem_yTodo, mem_yTodo, mem_yElems]; omega
theorem yTodo_dis (t : ℕ) : Disjoint (yElems (base i + t)) (yTodo i (t + 1)) :=
  Finset.disjoint_left.mpr fun x h h' => by rw [mem_yElems] at h; rw [mem_yTodo] at h'; omega
theorem yDone_next {t : ℕ} (h : 0 < t) : yDone i (t + 1) = yDone i t ∪ yElems (base i + (t - 1)) := by
  ext x; rw [Finset.mem_union, mem_yDone, mem_yDone, mem_yElems]; omega
theorem yDone_dis (t : ℕ) (h : 0 < t) : Disjoint (yDone i t) (yElems (base i + (t - 1))) :=
  Finset.disjoint_left.mpr fun x h h' => by rw [mem_yDone] at h; rw [mem_yElems] at h'; omega
theorem yDone_one : yDone i (0 + 1) = yDone i 0 := by
  ext x; rw [mem_yDone, mem_yDone]; omega

variable [FloatOps F]

theorem inCell_congr {a b : ℕ} (h : a = b) (ha hb) : inCell ![a] ha = inCell ![b] hb := by subst h; rfl
theorem outCell_congr {a b : ℕ} (h : a = b) (ha hb) : outCell ![a] ha = outCell ![b] hb := by subst h; rfl

theorem inFree_congr {n m : ℕ} (h : n % 2 = m % 2) : (inFree d i n : sProp 𝕄) = inFree d i m := by
  have e : inSem n = inSem m := inCell_congr h _ _
  unfold inFree inElems
  rw [e, h]
theorem outFree_congr {n m : ℕ} (h : n % 2 = m % 2) : (outFree d i n : sProp 𝕄) = outFree d i m := by
  have e : outSem n = outSem m := outCell_congr h _ _
  unfold outFree outElems
  rw [e, h]

variable (X : S625x100x32.Idx → Elt F .f32) (Y : S625x100x16.Idx → Elt F .f32)

/-- The incoming ring at trip `t`: its block on the way, the other slot free; both free after the last. -/
def inPart (t : ℕ) : sProp 𝕄 :=
  iprop((if t < cnt i then inFlight d i X t (base i + t) else inFree d i t) ∗ inFree d i (t + 1))
/-- The outgoing ring at trip `t`: a free slot, and the previous block on its way out. -/
def outPart (t : ℕ) : sProp 𝕄 :=
  iprop(outFree d i t ∗ (if t = 0 then outFree d i (t + 1) else outFlight d i X (t - 1) (base i + (t - 1))))

/-- What holds at the start of trip `t`. -/
def inv (O : CellTallies nD τ sig (HIx 1)) (W : Waits sig (HIx 1)) (t : ℕ)
    (acc : BitVec 32 × BitVec 32 × BitVec 32 × BitVec 32 × BitVec 32) : sProp 𝕄 :=
  iprop(⌜acc = carried i t⌝ ∗ inPart d i X t ∗ outPart d i X t ∗ (xL d i ↦[xHeld i t]{fullShare} X)
    ∗ (yL d i ↦[yDone i t]{fullShare} want X) ∗ (yL d i ↦[yTodo i t]{fullShare} Y)
    ∗ Transfers.MayWaits (th d i) (none : HIx 1) O
    ∗ ∃ W', ⌜∀ p ∈ W', p ∈ W ∨ p.2 = none⌝ ∗ owes (th d i) O W')

/-! ## A trip's words -/

set_option maxRecDepth 100000 in
theorem words : ∀ (i : grid0.Coords) (t : Fin (k0_t1_loop i).trips),
    let v5 := BitVec.ofNat 32 (cnt i)
    let v10 := BitVec.ofNat 32 (base i)
    let a9 := BitVec.ofNat 32 t.val
    let v84 := Scalar.addi a9 v10
    let v90 := Scalar.addi (Scalar.select (Scalar.cmpi .eq (Scalar.select 1#1 (Scalar.subi a9 1#32) a9) 4294967295#32)
      (Scalar.subi v5 1#32) (Scalar.select 1#1 (Scalar.subi a9 1#32) a9)) v10
    let v95 := Scalar.addi (Scalar.select (Scalar.cmpi .eq (Scalar.select 1#1 (Scalar.addi a9 1#32) a9) v5) 0#32
      (Scalar.select 1#1 (Scalar.addi a9 1#32) a9)) v10
    let a4 := Scf.iv 0#32 1#32 t
    Scalar.select (Scalar.andi (Scalar.andi (Scalar.cmpi .ne v84 v95)
        (Scalar.xori (Scalar.cmpi .sge a4 (Scalar.addi (Scalar.subi (Scalar.muli 1#32 v5) 2#32) 1#32)) 1#1)) 1#1)
        (Scalar.addi (a5 i t.val) 1#32) (a5 i t.val) = a5 i (t.val + 1)
    ∧ Scalar.ori (Scalar.cmpi .ne v84 v95) (Scalar.cmpi .eq a4 (Scalar.subi (Scalar.muli 1#32 v5) 1#32)) = 1#1
    ∧ Scalar.andi (Scalar.cmpi .ne v84 v90) (Scalar.xori (Scalar.cmpi .eq a4 0#32) 1#1) = (if t.val = 0 then 0#1 else 1#1) := by
  decide +kernel

set_option maxRecDepth 100000 in
theorem next : ∀ (i : grid0.Coords) (t : Fin (k0_t1_loop i).trips),
    Scalar.select 1#1 (Scalar.addi (BitVec.ofNat 32 t.val) 1#32) (BitVec.ofNat 32 t.val) = BitVec.ofNat 32 (t.val + 1)
    ∧ Scalar.select (Scalar.andi (if t.val = 0 then 0#1 else 1#1) 1#1) (Scalar.addi (a8 t.val) 1#32) (a8 t.val) = a8 (t.val + 1)
    ∧ Scalar.select (Scalar.cmpi .eq (BitVec.ofNat 32 (t.val + 1)) (BitVec.ofNat 32 (cnt i))) 0#32 (BitVec.ofNat 32 (t.val + 1)) = a9 i (t.val + 1) := by
  decide +kernel

/-- The incoming ring and the array read once a trip has sent for the next block. -/
def inMid (t : ℕ) : sProp 𝕄 :=
  if t + 1 < cnt i then iprop(inFlight d i X (t + 1) (base i + (t + 1)) ∗ (xL d i ↦[xMid i t]{fullShare} X))
  else iprop(inFree d i (t + 1) ∗ (xL d i ↦[xHeld i t]{fullShare} X))

theorem inMid_start {t : ℕ} (ht : t < cnt i) :
    iprop(inPart d i X t ∗ (xL d i ↦[xHeld i t]{fullShare} X))
      ⊢ (iprop(inFlight d i X t (base i + t) ∗ inFree d i (t + 1) ∗ (xL d i ↦[xHeld i t]{fullShare} X)) : sProp 𝕄) := by
  unfold inPart; rw [if_pos ht]
  iintro ⟨⟨Ha, Hb⟩, Hc⟩
  iframe

/-- The block just used goes back with the rest. -/
theorem inMid_end {t : ℕ} (ht : t < cnt i) :
    iprop(inMid d i X t ∗ inFree d i t ∗ (xL d i ↦[xElems (base i + t)]{fullShare} X))
      ⊢ (iprop(inPart d i X (t + 1) ∗ (xL d i ↦[xHeld i (t + 1)]{fullShare} X)) : sProp 𝕄) := by
  unfold inMid inPart
  rw [inFree_congr d i (n := t + 1 + 1) (m := t) (by omega)]
  by_cases h : t + 1 < cnt i
  · rw [if_pos h, if_pos h, xHeld_next i h]
    iintro ⟨⟨Ha, Hb⟩, Hc, Hd⟩
    isplitr [Hb Hd]
    · iframe
    · iapply (pointsTo_union (xHeld_next_dis i t)).2; iframe
  · rw [if_neg h, if_neg h, xHeld_last i ht (t' := t + 1) (by omega)]
    iintro ⟨⟨Ha, Hb⟩, Hc, Hd⟩
    isplitr [Hb Hd]
    · iframe
    · iapply (pointsTo_union (xHeld_last_dis i t)).2; iframe

theorem part1 (h1 : k0_cond1 i = 1#1) (t : Fin (k0_t1_loop i).trips) :
    (iprop(inFree d i (t.val + 1) ∗ (xL d i ↦[xHeld i t.val]{fullShare} X)) : sProp 𝕄)
      ⊢ wp frame (wpE defs₀ 𝒱₀ (th d i) none) Set.univ
          (k0_part1 (F := F) i (Memref.whole main_v0_scv) (Memref.isWhole_whole _) (Memref.whole main_v1_scv) (Memref.isWhole_whole _)
            (Memref.whole cc0_scoped0) (Memref.isWhole_whole _) cc0_scoped1 (Memref.whole cc0_scoped2) (Memref.isWhole_whole _) cc0_scoped3
            (BitVec.ofNat 32 (cnt i)) (BitVec.ofNat 32 (base i)) h1 0#32 1#32 t
            (a5 i t.val) (BitVec.ofNat 32 t.val) (BitVec.ofNat 32 t.val) (a8 t.val) (BitVec.ofNat 32 t.val))
          (fun r => iprop(⌜r.2.2.2.2.2.2.2.2.2.2.1 = a5 i (t.val + 1)
              ∧ Scalar.ori (Scalar.cmpi .ne r.2.2.2.2.2.2.2.1 r.2.2.2.2.2.2.2.2.2.1) r.2.2.2.2.2.2.1 = 1#1
              ∧ Scalar.andi (Scalar.cmpi .ne r.2.2.2.2.2.2.2.1 r.2.2.2.2.2.2.2.2.1) (Scalar.xori r.2.2.2.2.2.1 1#1)
                  = (if t.val = 0 then 0#1 else 1#1)⌝ ∗ inMid d i X t.val)) := by
  rw [k0_part1_eq_skeleton]
  unfold k0_part1_skel
  simp only [Prog.lift, Prog.bind_op, Prog.bind_ret, Prog.pure_eq_ret]
  rw [wp_assume_of _ _ _ _ (chk5 i t), wp_assume_of _ _ _ _ (chk2 i t), wp_assume_of _ _ _ _ (chk1 i t)]
  have hlt := trip_lt t
  have hc := cnt_le i
  unfold inMid
  by_cases h : t.val + 1 < cnt i
  · rw [dif_pos ((cond3 i t).mpr h), if_pos h, xHeld_eq i h]
    iintro ⟨Hf, Hx⟩
    ihave ⟨Hm, Hx⟩ := (pointsTo_union (xHeld_dis i t.val)).1 $$ Hx
    have ha : a5 i t.val = BitVec.ofNat 32 (t.val + 1) := congrArg (BitVec.ofNat 32) (Nat.min_eq_left (by omega))
    have e4 : k0_off4 (a5 i t.val) = slot4 ((t.val + 1) % 2) := by rw [ha]; exact off4 ⟨t.val + 1, by omega⟩
    have e6 : k0_off6 (a5 i t.val) = ![(t.val + 1) % 2] := by rw [ha]; exact off6 ⟨t.val + 1, by omega⟩
    iapply (start_in d i X e4 (off5 i t h) e6) $$ [Hf Hx]
    · iframe
    iintro Hfl
    rw [wp_ret]; imodintro
    isplitr [Hm Hfl]
    · ipureintro; exact words i t
    · iframe
  · rw [dif_neg (mt (cond3 i t).mp h), if_neg h]
    iintro ⟨Hf, Hx⟩
    rw [wp_ret]; imodintro
    isplitr [Hf Hx]
    · ipureintro; exact words i t
    · iframe

/-! ## The rows of a block -/

theorem lt32 {i : grid0.Coords} (t : Fin (k0_t1_loop i).trips) : t.val < 32 := by
  have h := trip_lt t
  have h' := cnt_le i
  omega

theorem row_lt (r : Fin k0_t2_loop.trips) : r.val < 100 := lt_of_lt_of_eq r.isLt t2_trips

theorem blk_lt {i : grid0.Coords} (t : Fin (k0_t1_loop i).trips) : base i + t.val < 625 := by
  have h := trip_lt t
  have h' := base_add_cnt_le i
  omega

/-- What holds before row `r`: the incoming slot holds the block, the outgoing slot its first `r` rows. -/
def rowsInv (n b : ℕ) (g : S2x1x100x32.Idx → Elt F .f32) (r : ℕ) (_ : PUnit) : sProp 𝕄 :=
  iprop((inL d i ↦[inElems n]{fullShare} g)
    ∗ ∃ f : S2x1x100x16.Idx → Elt F .f32, ⌜HoldsOut n b r X f⌝ ∗ (outL d i ↦[outElems n]{fullShare} f))

theorem row (h1 : k0_cond1 i = 1#1) (t : Fin (k0_t1_loop i).trips)
    (h5 : k0_chk5 i (BitVec.ofNat 32 t.val)) (h2 : k0_chk2 i (BitVec.ofNat 32 t.val))
    (h1' : k0_chk1 i t (a5 i t.val) (BitVec.ofNat 32 t.val) (BitVec.ofNat 32 t.val) (a8 t.val) (BitVec.ofNat 32 t.val))
    (a4 v80 : BitVec 32) (v81 v83 : BitVec 1) (v84 v90 v95 : BitVec 32) (v113 : BitVec 1) (c2 : BitVec 32)
    (h3 : k0_chk3 i k0_pay1) (h4 : k0_chk4 i (k0_pay2 k0_pay1)) (g : S2x1x100x32.Idx → Elt F .f32) (hg : HoldsIn t.val (base i + t.val) X g)
    (r : Fin k0_t2_loop.trips) (u : PUnit) :
    (rowsInv d i X t.val (base i + t.val) g r.val u : sProp 𝕄)
      ⊢ wp frame (wpE defs₀ 𝒱₀ (th d i) none) Set.univ
          (k0_t2_body (F := F) i (Memref.whole main_v0_scv) (Memref.isWhole_whole _) (Memref.whole main_v1_scv) (Memref.isWhole_whole _)
            (Memref.whole cc0_scoped0) (Memref.isWhole_whole _) cc0_scoped1 (Memref.whole cc0_scoped2) (Memref.isWhole_whole _) cc0_scoped3
            h1 t (a5 i t.val) (BitVec.ofNat 32 t.val) (BitVec.ofNat 32 t.val) (a8 t.val) (BitVec.ofNat 32 t.val) h5 h2 h1'
            a4 v80 v81 v83 v84 v90 v95 v113 c2 k0_pay1 h3 (k0_pay2 k0_pay1) h4 r u)
          (rowsInv d i X t.val (base i + t.val) g (r.val + 1)) := by
  unfold k0_t2_body
  have e10 : k0_off10 (BitVec.ofNat 32 t.val) = slot4 (t.val % 2) := off10 ⟨t.val, lt32 t⟩
  have e12 : k0_off12 (BitVec.ofNat 32 t.val) = slot4 (t.val % 2) := off12 ⟨t.val, lt32 t⟩
  have e14 : k0_off14 (BitVec.ofNat 32 t.val) = slot4 (t.val % 2) := off14 ⟨t.val, lt32 t⟩
  simp only [Prog.lift, Prog.bind_op, Prog.bind_ret, Prog.pure_eq_ret]
  unfold rowsInv
  iintro H
  iapply (row_step d i X (b := base i + t.val) e10 e12 e14 (k0_off11_eq r) (k0_off13_eq r) (k0_off15_eq r) (blk_lt t) (row_lt r) g hg) $$ H
  iintro H
  rw [wp_ret]; imodintro
  iexact H

theorem part2 (O : CellTallies nD τ sig (HIx 1)) (W : Waits sig (HIx 1)) (h1 : k0_cond1 i = 1#1) (t : Fin (k0_t1_loop i).trips)
    (h5 : k0_chk5 i (BitVec.ofNat 32 t.val)) (h2 : k0_chk2 i (BitVec.ofNat 32 t.val))
    (h1' : k0_chk1 i t (a5 i t.val) (BitVec.ofNat 32 t.val) (BitVec.ofNat 32 t.val) (a8 t.val) (BitVec.ofNat 32 t.val))
    (a4 v80 : BitVec 32) (v81 v83 : BitVec 1) (v84 v90 v95 : BitVec 32) (v113 : BitVec 1) (c2 : BitVec 32) :
    (iprop(inFlight d i X t.val (base i + t.val) ∗ outFree d i t.val ∗ (yL d i ↦[yTodo i t.val]{fullShare} Y)
        ∗ Transfers.MayWaits (th d i) (none : HIx 1) O ∗ ∃ W', ⌜∀ p ∈ W', p ∈ W ∨ p.2 = none⌝ ∗ owes (th d i) O W') : sProp 𝕄)
      ⊢ wp frame (wpE defs₀ 𝒱₀ (th d i) none) Set.univ
          (k0_part2 (F := F) i (Memref.whole main_v0_scv) (Memref.isWhole_whole _) (Memref.whole main_v1_scv) (Memref.isWhole_whole _)
            (Memref.whole cc0_scoped0) (Memref.isWhole_whole _) cc0_scoped1 (Memref.whole cc0_scoped2) (Memref.isWhole_whole _) cc0_scoped3
            h1 t (a5 i t.val) (BitVec.ofNat 32 t.val) (BitVec.ofNat 32 t.val) (a8 t.val) (BitVec.ofNat 32 t.val) h5 h2 h1'
            a4 v80 v81 v83 v84 v90 v95 v113 c2)
          (fun v => iprop(⌜v = Scalar.andi (Scalar.ori (Scalar.cmpi .ne v84 v95) v83) 1#1⌝
            ∗ inFree d i t.val ∗ (xL d i ↦[xElems (base i + t.val)]{fullShare} X)
            ∗ outFlight d i X t.val (base i + t.val) ∗ (yL d i ↦[yTodo i (t.val + 1)]{fullShare} Y)
            ∗ ∃ W', ⌜∀ p ∈ W', p ∈ W ∨ p.2 = none⌝ ∗ owes (th d i) O W')) := by
  rw [k0_part2_eq_skeleton]
  unfold k0_part2_skel
  have hlt := trip_lt t
  rw [dif_pos (cond4 i t), dif_pos (cond7 i t), yTodo_eq i hlt]
  simp only [Prog.lift, Prog.bind_op, Prog.bind_ret, Prog.pure_eq_ret, ite_self]
  have e9 : k0_off9 (BitVec.ofNat 32 t.val) = ![t.val % 2] := off9 ⟨t.val, lt32 t⟩
  have e16 : k0_off16 (BitVec.ofNat 32 t.val) = slot4 (t.val % 2) := off16 ⟨t.val, lt32 t⟩
  have e18 : k0_off18 (BitVec.ofNat 32 t.val) = ![t.val % 2] := off18 ⟨t.val, lt32 t⟩
  iintro ⟨Hfl, Hof, Ht, #Hmw, ⟨%W', %hW, HO⟩⟩
  iapply (await_in d i X e9) $$ [Hfl HO]
  · iframe
    iapply (Transfers.MayWaits.elim (SemLoc.dma (inSem t.val))) $$ Hmw
  iintro ⟨Hland, Hsem, HO⟩
  unfold inLanded
  icases Hland with ⟨⟨%g, %hg, Hg⟩, Hx⟩
  unfold outFree
  icases Hof with ⟨⟨%f, Hf⟩, Hos⟩
  rw [wp_assume_of _ _ _ _ (chk3 i), wp_assume_of _ _ _ _ (chk4 i)]
  iapply (Scf.wp_for_bind _ _ _ _ _ _ _ _ _ (rowsInv d i X t.val (base i + t.val) g)
    (fun r u => row d i X h1 t h5 h2 h1' a4 v80 v81 v83 v84 v90 v95 v113 c2 (chk3 i) (chk4 i) g hg r u)) $$ [Hg Hf]
  · unfold rowsInv
    iframe
    iexists f
    iframe
    ipureintro
    exact fun x _ _ hx => absurd hx (Nat.not_lt_zero _)
  iintro %u Hr
  rw [show Scf.trips k0_t2_loop.lb k0_t2_loop.ub k0_t2_loop.st = 100 from t2_trips]
  unfold rowsInv
  icases Hr with ⟨Hg, ⟨%f', %hf', Hf⟩⟩
  ihave ⟨Hy, Ht⟩ := (pointsTo_union (yTodo_dis i t.val)).1 $$ Ht
  iapply (start_out d i X e16 (off17 i t) e18 Y f' hf') $$ [Hf Hy Hos]
  · iframe
  iintro Hfl
  rw [wp_ret]; imodintro
  isplitr [Hg Hsem Hx Hfl Ht HO]
  · ipureintro; rfl
  unfold inFree
  iframe
  isplitl [Hg]
  · iexists g; iframe
  iexists _
  iframe
  ipureintro
  intro p hp
  rcases Finset.mem_insert.mp hp with rfl | hp
  · exact Or.inr rfl
  · exact hW p hp

/-! ## The trip -/

/-- A part's run, then the rest of the text from what the part leaves. -/
theorem seq {α β : Type} {P : sProp 𝕄} {p : Prog (TpuEff nD τ sig (Elt F) Λ₀ (th d i).2) β}
    {k : β → Prog (TpuEff nD τ sig (Elt F) Λ₀ (th d i).2) α} {Φ : β → sProp 𝕄} {Q : α → sProp 𝕄}
    (h : P ⊢ wp frame (wpE defs₀ 𝒱₀ (th d i) none) Set.univ p Φ) :
    P ⊢ iprop((∀ a, Φ a -∗ wp frame (wpE defs₀ 𝒱₀ (th d i) none) Set.univ (k a) Q)
      -∗ wp frame (wpE defs₀ 𝒱₀ (th d i) none) Set.univ (p >>= k) Q) := by
  rw [wp_bind]
  exact h.trans (wp_wand frame _ _)

theorem outPart_zero {t : ℕ} (ht : t = 0) :
    iprop(outPart d i X t ∗ (yL d i ↦[yDone i t]{fullShare} want X))
      ⊢ (iprop(outFree d i t ∗ outFree d i (t + 1) ∗ (yL d i ↦[yDone i (t + 1)]{fullShare} want X)) : sProp 𝕄) := by
  subst ht
  unfold outPart
  rw [if_pos rfl, yDone_one]
  iintro ⟨⟨Ha, Hb⟩, Hc⟩
  iframe

theorem outPart_pos {t : ℕ} (ht : 0 < t) :
    (outPart d i X t : sProp 𝕄) ⊢ iprop(outFree d i t ∗ outFlight d i X (t - 1) (base i + (t - 1))) := by
  unfold outPart
  rw [if_neg (by omega)]

theorem out_back {t : ℕ} (ht : 0 < t) :
    iprop(outLanded d i X (t - 1) (base i + (t - 1)) ∗ semVal (th d i, SemLoc.dma (outSem (t - 1))) 0 ∗ (yL d i ↦[yDone i t]{fullShare} want X))
      ⊢ (iprop(outFree d i (t + 1) ∗ (yL d i ↦[yDone i (t + 1)]{fullShare} want X)) : sProp 𝕄) := by
  rw [outFree_congr d i (n := t + 1) (m := t - 1) (by omega), yDone_next i ht]
  unfold outLanded outFree
  iintro ⟨⟨Hf, Hy⟩, Hs, Hd⟩
  isplitl [Hf Hs]
  · iframe
  · iapply (pointsTo_union (yDone_dis i t ht)).2; iframe

theorem outPart_next {t : ℕ} :
    iprop(outFree d i (t + 1) ∗ outFlight d i X t (base i + t)) ⊢ (outPart d i X (t + 1) : sProp 𝕄) := by
  unfold outPart
  rw [if_neg (Nat.succ_ne_zero t), Nat.add_sub_cancel]

theorem trip (O : CellTallies nD τ sig (HIx 1)) (W : Waits sig (HIx 1)) (h1 : k0_cond1 i = 1#1) (t : Fin (k0_t1_loop i).trips)
    (v11 v41 v45 : BitVec 32)
    (acc : BitVec 32 × BitVec 32 × BitVec 32 × BitVec 32 × BitVec 32) :
    (inv d i X Y O W t.val acc : sProp 𝕄)
      ⊢ wp frame (wpE defs₀ 𝒱₀ (th d i) none) Set.univ
          (k0_t1_body (F := F) i (Memref.whole main_v0_scv) (Memref.isWhole_whole _) (Memref.whole main_v1_scv) (Memref.isWhole_whole _)
            (Memref.whole cc0_scoped0) (Memref.isWhole_whole _) cc0_scoped1 (Memref.whole cc0_scoped2) (Memref.isWhole_whole _) cc0_scoped3
            (BitVec.ofNat 32 (cnt i)) (BitVec.ofNat 32 (base i)) v11 h1 v41 0#32 0#32 0#32 0#32 0#32 v45 t acc)
          (inv d i X Y O W (t.val + 1)) := by
  unfold inv
  iintro ⟨%hacc, Hin, Hout, Hx, Hd, Ht, #Hmw, HO⟩
  subst hacc
  unfold k0_t1_body carried
  rw [a9_trip]
  ihave ⟨Hfl, Hfr, Hx⟩ := (inMid_start d i X (trip_lt t)) $$ [Hin Hx]
  · iframe
  iapply (seq d i (part1 d i X h1 t)) $$ [Hfr Hx]
  · iframe
  iintro %r ⟨%hr, Hmid⟩
  obtain ⟨g5, g2, g1, a4, v80, v81, v83, v84, v90, v95, v112, v113, c2⟩ := r
  obtain ⟨hr1, hr2, hr3⟩ := hr
  dsimp only at hr1 hr2 hr3 ⊢
  by_cases h0 : t.val = 0
  · ihave ⟨Hof, Hof', Hd⟩ := (outPart_zero d i X h0) $$ [Hout Hd]
    · iframe
    iapply (seq d i (part2 d i X Y O W h1 t g5 g2 g1 a4 v80 v81 v83 v84 v90 v95 v113 c2)) $$ [Hfl Hof Ht HO]
    · iframe
      iexact Hmw
    iintro %v ⟨%hv, Hif, Hxe, Hofl, Ht, HO⟩
    subst hv
    rw [dif_neg (mt (cond9 i t).mp (by omega))]
    simp only [Prog.lift, Prog.bind_op, Prog.bind_ret, Prog.pure_eq_ret, ite_self]
    ihave ⟨Hin, Hx⟩ := (inMid_end d i X (trip_lt t)) $$ [Hmid Hif Hxe]
    · iframe
    ihave Hout := (outPart_next d i X (t := t.val)) $$ [Hof' Hofl]
    · iframe
    rw [wp_ret]; imodintro
    iframe
    isplitl
    · ipureintro
      obtain ⟨n1, n2, n3⟩ := next i t
      rw [hr1, hr2, hr3, n2, show Scalar.andi (1#1 : BitVec 1) 1#1 = 1#1 from rfl, n1, n3]
    · iexact Hmw
  · ihave ⟨Hof, Hfo⟩ := (outPart_pos d i X (Nat.pos_of_ne_zero h0)) $$ Hout
    iapply (seq d i (part2 d i X Y O W h1 t g5 g2 g1 a4 v80 v81 v83 v84 v90 v95 v113 c2)) $$ [Hfl Hof Ht HO]
    · iframe
      iexact Hmw
    iintro %v ⟨%hv, Hif, Hxe, Hofl, Ht, ⟨%W', %hW, HO⟩⟩
    subst hv
    rw [dif_pos ((cond9 i t).mpr (Nat.pos_of_ne_zero h0))]
    simp only [Prog.lift, Prog.bind_op, Prog.bind_ret, Prog.pure_eq_ret, ite_self]
    have e21 : k0_off21 (a8 t.val) = ![(t.val - 1) % 2] := off21 ⟨t.val - 1, lt_of_le_of_lt (Nat.sub_le _ _) (lt32 t)⟩
    iapply (await_out d i X e21) $$ [Hfo HO]
    · iframe
      iapply (Transfers.MayWaits.elim (SemLoc.dma (outSem (t.val - 1)))) $$ Hmw
    iintro ⟨Hl, Hs, HO⟩
    ihave ⟨Hof', Hd⟩ := (out_back d i X (Nat.pos_of_ne_zero h0)) $$ [Hl Hs Hd]
    · iframe
    ihave ⟨Hin, Hx⟩ := (inMid_end d i X (trip_lt t)) $$ [Hmid Hif Hxe]
    · iframe
    ihave Hout := (outPart_next d i X (t := t.val)) $$ [Hof' Hofl]
    · iframe
    rw [wp_ret]; imodintro
    iframe
    isplitr [HO]
    · ipureintro
      obtain ⟨n1, n2, n3⟩ := next i t
      rw [hr1, hr2, hr3, n2, show Scalar.andi (1#1 : BitVec 1) 1#1 = 1#1 from rfl, n1, n3]
    isplitr [HO]
    · iexact Hmw
    iexists _
    iframe
    ipureintro
    intro p hp
    rcases Finset.mem_insert.mp hp with rfl | hp
    · exact Or.inr rfl
    · exact hW p hp

end Cert.KernelIdeal.Tile

end
-- ==== Proof.KI.Body.lean ====
/- A tile's whole run: the first block sent for, the loop, and the last block's landing. -/
module

public import proofs.«01_k».proof.Proof.KI.Trip

@[expose] public section

noncomputable section

namespace Cert.KernelIdeal.Tile

open Idealize.ShloMosaic Idealize.ShloMosaic.ValueIdx
open Cert.KernelIdeal Cert.KernelIdeal.Gen
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (d : Dev nD) (i : grid0.Coords)

variable [FloatOps F] (X : S625x100x32.Idx → Elt F .f32) (Y : S625x100x16.Idx → Elt F .f32)

/-! ## Both slots of a ring, at rest -/

theorem inFree_two (n : ℕ) : iprop(inFree d i n ∗ inFree d i (n + 1)) ⊢ (iprop(inFree d i 0 ∗ inFree d i 1) : sProp 𝕄) := by
  rcases Nat.mod_two_eq_zero_or_one n with h | h
  · rw [inFree_congr d i (n := n) (m := 0) (by omega), inFree_congr d i (n := n + 1) (m := 1) (by omega)]
  · rw [inFree_congr d i (n := n) (m := 1) (by omega), inFree_congr d i (n := n + 1) (m := 0) (by omega)]
    exact sep_comm.1

theorem outFree_two (n : ℕ) : iprop(outFree d i n ∗ outFree d i (n + 1)) ⊢ (iprop(outFree d i 0 ∗ outFree d i 1) : sProp 𝕄) := by
  rcases Nat.mod_two_eq_zero_or_one n with h | h
  · rw [outFree_congr d i (n := n) (m := 0) (by omega), outFree_congr d i (n := n + 1) (m := 1) (by omega)]
  · rw [outFree_congr d i (n := n) (m := 1) (by omega), outFree_congr d i (n := n + 1) (m := 0) (by omega)]
    exact sep_comm.1

theorem cnt_pos : 0 < cnt i := lt_of_lt_of_le (by decide) (cnt_ge i)

theorem inPart_end : (inPart d i X (cnt i) : sProp 𝕄) ⊢ iprop(inFree d i 0 ∗ inFree d i 1) := by
  unfold inPart
  rw [if_neg (lt_irrefl _)]
  exact inFree_two d i _

theorem inPart_zero : iprop(inFlight d i X 0 (base i) ∗ inFree d i 1) ⊢ (inPart d i X 0 : sProp 𝕄) := by
  unfold inPart
  rw [if_pos (cnt_pos i), Nat.add_zero]

theorem yDone_all : yDone i (cnt i + 1) = yTodo i 0 := by
  have h := cnt_pos i
  ext x; rw [mem_yDone, mem_yTodo]; omega

theorem yDone_none : yDone i 0 = ∅ := by
  ext x
  rw [mem_yDone]
  exact ⟨fun h => absurd h (by omega), fun h => absurd h (Finset.notMem_empty x)⟩

/-! ## The first block -/

set_option maxRecDepth 100000 in
theorem first : ∀ i : grid0.Coords,
    Scalar.select (Scalar.andi 1#1 (Scalar.cmpi .sgt (Scalar.muli 1#32 (BitVec.ofNat 32 (cnt i))) 0#32)) (Scalar.addi 0#32 1#32) 0#32
      = a5 i 0 := by decide +kernel

theorem part5 (h1 : k0_cond1 i = 1#1) (v11 : BitVec 32) :
    (iprop(inFree d i 0 ∗ (xL d i ↦[xHeld i (cnt i)]{fullShare} X)) : sProp 𝕄)
      ⊢ wp frame (wpE defs₀ 𝒱₀ (th d i) none) Set.univ
          (k0_part5 (F := F) i (Memref.whole main_v0_scv) (Memref.isWhole_whole _) (Memref.whole main_v1_scv) (Memref.isWhole_whole _)
            (Memref.whole cc0_scoped0) (Memref.isWhole_whole _) cc0_scoped1 (Memref.whole cc0_scoped2) (Memref.isWhole_whole _) cc0_scoped3
            (BitVec.ofNat 32 (cnt i)) (BitVec.ofNat 32 (base i)) v11 h1)
          (fun r => iprop(⌜r.1 = a5 i 0 ∧ r.2.1 = 0#32 ∧ r.2.2.1 = 0#32 ∧ r.2.2.2.1 = 0#32 ∧ r.2.2.2.2.1 = 0#32 ∧ r.2.2.2.2.2.1 = 0#32⌝
            ∗ inFlight d i X 0 (base i) ∗ (xL d i ↦[xHeld i 0]{fullShare} X))) := by
  rw [k0_part5_eq_skeleton]
  unfold k0_part5_skel
  rw [dif_pos (cond2 i), xHeld_last i (cnt_pos i) (le_refl _), Nat.add_zero]
  simp only [Prog.lift, Prog.bind_op, Prog.bind_ret, Prog.pure_eq_ret]
  iintro ⟨Hf, Hx⟩
  ihave ⟨Hh, Hx⟩ := (pointsTo_union (xHeld_last_dis i 0)).1 $$ Hx
  iapply (start_in d i X (n := 0) k0_off1_eq (off2 i) k0_off3_eq) $$ [Hf Hx]
  · iframe
  iintro Hfl
  rw [wp_ret]; imodintro
  iframe
  ipureintro
  exact ⟨first i, rfl, rfl, rfl, rfl, rfl⟩

theorem carried_zero : ∀ i : grid0.Coords, (a5 i 0, 0#32, 0#32, 0#32, 0#32) = carried i 0 := by decide +kernel

/-- A branch with the same text either way. -/
theorem either_way {α : Sort*} {c : Prop} [Decidable c] (a : α) : (if _ : c then a else a) = a := by split <;> rfl

/-! ## The loop and the last block -/

theorem part6 (O : CellTallies nD τ sig (HIx 1)) (W : Waits sig (HIx 1)) (h1 : k0_cond1 i = 1#1) (v11 v45 : BitVec 32) :
    (iprop(inPart d i X 0 ∗ outFree d i 0 ∗ outFree d i 1 ∗ (xL d i ↦[xHeld i 0]{fullShare} X) ∗ (yL d i ↦[yTodo i 0]{fullShare} Y)
        ∗ Transfers.MayWaits (th d i) (none : HIx 1) O ∗ owes (th d i) O W) : sProp 𝕄)
      ⊢ wp frame (wpE defs₀ 𝒱₀ (th d i) none) Set.univ
          (k0_part6 (F := F) i (Memref.whole main_v0_scv) (Memref.isWhole_whole _) (Memref.whole main_v1_scv) (Memref.isWhole_whole _)
            (Memref.whole cc0_scoped0) (Memref.isWhole_whole _) cc0_scoped1 (Memref.whole cc0_scoped2) (Memref.isWhole_whole _) cc0_scoped3
            (BitVec.ofNat 32 (cnt i)) (BitVec.ofNat 32 (base i)) v11 h1 (a5 i 0) 0#32 0#32 0#32 0#32 0#32 v45)
          (fun _ => iprop((inFree d i 0 ∗ inFree d i 1) ∗ (outFree d i 0 ∗ outFree d i 1) ∗ (xL d i ↦[xHeld i (cnt i)]{fullShare} X)
            ∗ (yL d i ↦[yTodo i 0]{fullShare} want X) ∗ ∃ W', ⌜∀ p ∈ W', p ∈ W ∨ p.2 = none⌝ ∗ owes (th d i) O W')) := by
  rw [k0_part6_eq_skeleton]
  unfold k0_part6_skel
  iintro ⟨Hin, Hof, Hof', Hx, Ht, #Hmw, HO⟩
  iapply (Scf.wp_for_bind _ _ _ _ _ _ _ _ _ (inv d i X Y O W)
    (fun t acc => trip d i X Y O W h1 t v11 (a5 i 0) v45 acc)) $$ [Hin Hof Hof' Hx Ht HO]
  · unfold inv outPart
    rw [if_pos rfl, yDone_none]
    iframe
    isplitr
    · ipureintro
      exact carried_zero i
    isplitr
    · rw [pointsTo_empty]; iempintro
    isplitr
    · iexact Hmw
    · iexists W
      iframe
      ipureintro
      exact fun p hp => Or.inl hp
  iintro %acc H
  rw [show Scf.trips (k0_t1_loop i).lb (k0_t1_loop i).ub (k0_t1_loop i).st = cnt i from t1_trips i]
  unfold inv
  icases H with ⟨%hacc, Hin, Hout, Hx, Hd, -, -, ⟨%W', %hW, HO⟩⟩
  subst hacc
  have h9 : a9 i (cnt i) = 0#32 := if_pos rfl
  unfold carried
  rw [h9]
  iapply (Scf.wp_for0_bind' _ _ _ _ _ _ _ _ _ (t3_trips i) _ _ _ .rfl)
  dsimp only
  simp only [Prog.lift, Prog.bind_op, Prog.bind_ret, Prog.pure_eq_ret, ite_self]
  rw [wp_assume_of _ _ _ _ (chk12 i), wp_assume_of _ _ _ _ (chk11 i)]
  rw [dif_pos (cond18 i), either_way]
  have hp := cnt_pos i
  have h32 : cnt i - 1 < 32 := by have h := cnt_le i; omega
  have e42 : k0_off42 (a8 (cnt i)) = ![(cnt i - 1) % 2] := off42 ⟨cnt i - 1, h32⟩
  ihave ⟨Hof, Hfo⟩ := (outPart_pos d i X hp) $$ Hout
  iapply (await_out d i X e42) $$ [Hfo HO]
  · iframe
    iapply (Transfers.MayWaits.elim (SemLoc.dma (outSem (cnt i - 1)))) $$ Hmw
  iintro ⟨Hl, Hs, HO⟩
  ihave ⟨Hof', Hd⟩ := (out_back d i X hp) $$ [Hl Hs Hd]
  · iframe
  rw [wp_ret, yDone_all]; imodintro
  iframe
  isplitl [Hin]
  · iapply (inPart_end d i X) $$ Hin
  isplitl [Hof Hof']
  · iapply (outFree_two d i (cnt i)); iframe
  iexists _
  iframe
  ipureintro
  intro p hp
  rcases Finset.mem_insert.mp hp with rfl | hp
  · exact Or.inr rfl
  · exact hW p hp

/-! ## The whole text -/

set_option maxRecDepth 100000 in
theorem word_cnt : ∀ i : grid0.Coords,
    Scalar.select (Scalar.cmpi .slt (Scalar.addi (Scalar.addi 0#32 (Scalar.muli (BitVec.ofNat 32 (i 1).val) 1#32))
      (Scalar.muli (BitVec.ofNat 32 (i 0).val) 16#32)) 17#32) 20#32 19#32 = BitVec.ofNat 32 (cnt i) := by decide +kernel

set_option maxRecDepth 100000 in
theorem word_base : ∀ i : grid0.Coords,
    let v3 := Scalar.addi (Scalar.addi 0#32 (Scalar.muli (BitVec.ofNat 32 (i 1).val) 1#32)) (Scalar.muli (BitVec.ofNat 32 (i 0).val) 16#32)
    Scalar.select (Scalar.cmpi .slt v3 17#32) (Scalar.muli v3 (BitVec.ofNat 32 (cnt i))) (Scalar.addi (Scalar.muli v3 19#32) 17#32)
      = BitVec.ofNat 32 (base i) := by decide +kernel

/-- A tile run: its blocks of the array read stay, its blocks of the array written end at the kernel's function of them. -/
theorem tile (O : CellTallies nD τ sig (HIx 1)) (W : Waits sig (HIx 1)) :
    (iprop((inFree d i 0 ∗ inFree d i 1) ∗ (outFree d i 0 ∗ outFree d i 1) ∗ (xL d i ↦[xHeld i (cnt i)]{fullShare} X)
        ∗ (yL d i ↦[yTodo i 0]{fullShare} Y)
        ∗ Transfers.MayWaits (th d i) (none : HIx 1) O ∗ owes (th d i) O W) : sProp 𝕄)
      ⊢ wp frame (wpE defs₀ 𝒱₀ (th d i) none) Set.univ
          (cc0_sc_kernel (F := F) i (Memref.whole main_v0_scv) (Memref.isWhole_whole _) (Memref.whole main_v1_scv) (Memref.isWhole_whole _)
            (Memref.whole cc0_scoped0) (Memref.isWhole_whole _) cc0_scoped1 (Memref.whole cc0_scoped2) (Memref.isWhole_whole _) cc0_scoped3)
          (fun _ => iprop((inFree d i 0 ∗ inFree d i 1) ∗ (outFree d i 0 ∗ outFree d i 1) ∗ (xL d i ↦[xHeld i (cnt i)]{fullShare} X)
            ∗ (yL d i ↦[yTodo i 0]{fullShare} want X) ∗ ∃ W', ⌜∀ p ∈ W', p ∈ W ∨ p.2 = none⌝ ∗ owes (th d i) O W')) := by
  rw [cc0_sc_kernel_eq_skeleton]
  unfold cc0_sc_kernel_skel
  have h1 := cond1 i
  rw [dif_pos h1]
  rw [word_cnt i, word_base i]
  iintro ⟨⟨Hi0, Hi1⟩, ⟨Ho0, Ho1⟩, Hx, Hy, #Hmw, HO⟩
  iapply (seq d i (part5 d i X h1 _)) $$ [Hi0 Hx]
  · iframe
  iintro %r ⟨%hr, Hfl, Hx⟩
  obtain ⟨v41, c0, c1, c2, c3, c4, v45⟩ := r
  obtain ⟨e1, e2, e3, e4, e5, e6⟩ := hr
  dsimp only at e1 e2 e3 e4 e5 e6 ⊢
  subst e1 e2 e3 e4 e5 e6
  ihave Hin := (inPart_zero d i X) $$ [Hfl Hi1]
  · iframe
  iapply (seq d i (part6 d i X Y O W h1 _ v45)) $$ [Hin Ho0 Ho1 Hx Hy HO]
  · iframe
    iexact Hmw
  iintro %u H
  simp only [Prog.bind_ret, Prog.pure_eq_ret]
  rw [wp_ret]; imodintro
  iexact H

end Cert.KernelIdeal.Tile

end
-- ==== Proof.KI.Launch.lean ====
/- The program as the launch theorem sees it, and a tile's task from its own scratch. -/
module

public import proofs.«01_k».proof.Defs
public import proofs.«01_k».proof.Proof.KI.Body
public import proofs.«01_k».proof.Proof.Gen.KernelIdeal
public import Idealize.ShloMosaic.Lib.StableHlo.Run

@[expose] public section

noncomputable section

namespace Cert.KernelIdeal.Tile

open Idealize.ShloMosaic
open Cert.KernelIdeal Cert.KernelIdeal.Gen
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance

/-! ## A tile's rings, from its scratch -/

section Tile

variable (d : Dev nD) (i : grid0.Coords)

abbrev cell (sm : DmaSem sig) : GSem nD τ sig := (th d i, SemLoc.dma sm)

theorem scoped_in (n : ℕ) : (SemLoc.dma (inSem n) : SemLoc sig).isScoped .scVector = true := by
  rcases Nat.mod_two_eq_zero_or_one n with h | h
  · rw [show inSem n = inSem 0 from inCell_congr h _ _]; decide
  · rw [show inSem n = inSem 1 from inCell_congr h _ _]; decide
theorem scoped_out (n : ℕ) : (SemLoc.dma (outSem n) : SemLoc sig).isScoped .scVector = true := by
  rcases Nat.mod_two_eq_zero_or_one n with h | h
  · rw [show outSem n = outSem 0 from outCell_congr h _ _]; decide
  · rw [show outSem n = outSem 1 from outCell_congr h _ _]; decide

theorem cell_ne {a b : DmaSem sig} (h : a ≠ b) : cell d i a ≠ cell d i b := fun e => by
  injection e with _ e2
  injection e2 with e3
  exact h e3

/-- The four counters of the rings, out of the tile's own. -/
theorem ownSems0_V :
    (ownSems0 (th d i) : sProp 𝕄)
      = iprop(semVal (cell d i (inSem 0)) 0 ∗ semVal (cell d i (inSem 1)) 0 ∗ semVal (cell d i (outSem 0)) 0 ∗ semVal (cell d i (outSem 1)) 0
          ∗ bigSep (((((ownCells (th d i)).erase (cell d i (inSem 0))).erase (cell d i (inSem 1))).erase (cell d i (outSem 0))).erase (cell d i (outSem 1)))
              fun g => semVal g 0) := by
  have m0 : cell d i (inSem 0) ∈ ownCells (th d i) := mem_ownCells.mpr ⟨rfl, scoped_in 0⟩
  have m1 : cell d i (inSem 1) ∈ ownCells (th d i) := mem_ownCells.mpr ⟨rfl, scoped_in 1⟩
  have m2 : cell d i (outSem 0) ∈ ownCells (th d i) := mem_ownCells.mpr ⟨rfl, scoped_out 0⟩
  have m3 : cell d i (outSem 1) ∈ ownCells (th d i) := mem_ownCells.mpr ⟨rfl, scoped_out 1⟩
  have n10 := cell_ne d i (show inSem 1 ≠ inSem 0 by decide)
  have n20 := cell_ne d i (show outSem 0 ≠ inSem 0 by decide)
  have n21 := cell_ne d i (show outSem 0 ≠ inSem 1 by decide)
  have n30 := cell_ne d i (show outSem 1 ≠ inSem 0 by decide)
  have n31 := cell_ne d i (show outSem 1 ≠ inSem 1 by decide)
  have n32 := cell_ne d i (show outSem 1 ≠ outSem 0 by decide)
  unfold SparseCore.Cfg.ownSems0
  rw [SparseCore.bigSep_erase' m0, SparseCore.bigSep_erase' (Finset.mem_erase.mpr ⟨n10, m1⟩),
    SparseCore.bigSep_erase' (Finset.mem_erase.mpr ⟨n21, Finset.mem_erase.mpr ⟨n20, m2⟩⟩),
    SparseCore.bigSep_erase' (Finset.mem_erase.mpr ⟨n32, Finset.mem_erase.mpr ⟨n31, Finset.mem_erase.mpr ⟨n30, m3⟩⟩⟩)]

/-- The two rings, out of the tile's own buffers. -/
theorem ownBufs_V :
    (ownBufs (th d i) : sProp 𝕄)
      = iprop((∃ f, inL d i ↦{fullShare} f) ∗ (∃ f, outL d i ↦{fullShare} f)
          ∗ bigSep (((ownRefs (τ := τ) (th d i).2).erase ((th d i).2.devRef cc0_scoped0)).erase ((th d i).2.devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := (th d i).2) (b := (th d i).2.devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := (th d i).2) (b := (th d i).2.devRef cc0_scoped2) rfl⟩)]

theorem inElems_two : inElems 0 ∪ inElems 1 = Finset.univ := by
  ext x
  have h : (x 0).val < 2 := lt_of_lt_of_eq (x 0).isLt rfl
  rw [Finset.mem_union, mem_inElems, mem_inElems]
  exact ⟨fun _ => Finset.mem_univ _, fun _ => by omega⟩
theorem inElems_dis : Disjoint (inElems 0) (inElems 1) :=
  Finset.disjoint_left.mpr fun x h h' => by rw [mem_inElems] at h h'; omega
theorem outElems_two : outElems 0 ∪ outElems 1 = Finset.univ := by
  ext x
  have h : (x 0).val < 2 := lt_of_lt_of_eq (x 0).isLt rfl
  rw [Finset.mem_union, mem_outElems, mem_outElems]
  exact ⟨fun _ => Finset.mem_univ _, fun _ => by omega⟩
theorem outElems_dis : Disjoint (outElems 0) (outElems 1) :=
  Finset.disjoint_left.mpr fun x h h' => by rw [mem_outElems] at h h'; omega

variable [FloatOps F]

theorem inFree_open :
    iprop((∃ f, inL d i ↦{fullShare} f) ∗ semVal (cell d i (inSem 0)) 0 ∗ semVal (cell d i (inSem 1)) 0)
      ⊢ (iprop(inFree d i 0 ∗ inFree d i 1) : sProp 𝕄) := by
  unfold inFree
  iintro ⟨⟨%f, Hf⟩, H0, H1⟩
  rw [← inElems_two]
  ihave ⟨Ha, Hb⟩ := (pointsTo_union inElems_dis).1 $$ Hf
  isplitl [Ha H0]
  · isplitl [Ha]
    · iexists f; iexact Ha
    · iexact H0
  · isplitl [Hb]
    · iexists f; iexact Hb
    · iexact H1

theorem inFree_close :
    iprop(inFree d i 0 ∗ inFree d i 1)
      ⊢ (iprop((∃ f, inL d i ↦{fullShare} f) ∗ semVal (cell d i (inSem 0)) 0 ∗ semVal (cell d i (inSem 1)) 0) : sProp 𝕄) := by
  unfold inFree
  iintro ⟨⟨⟨%f, Ha⟩, H0⟩, ⟨%g, Hb⟩, H1⟩
  isplitl [Ha Hb]
  · ihave H := (pointsTo_join (ℓ := inL d i) (I := inElems 0) (J := inElems 1) inElems_dis) $$ [Ha Hb]
    · isplitl [Ha] <;> iassumption
    rw [inElems_two]
    iexists _; iexact H
  · isplitl [H0] <;> iassumption

theorem outFree_open :
    iprop((∃ f, outL d i ↦{fullShare} f) ∗ semVal (cell d i (outSem 0)) 0 ∗ semVal (cell d i (outSem 1)) 0)
      ⊢ (iprop(outFree d i 0 ∗ outFree d i 1) : sProp 𝕄) := by
  unfold outFree
  iintro ⟨⟨%f, Hf⟩, H0, H1⟩
  rw [← outElems_two]
  ihave ⟨Ha, Hb⟩ := (pointsTo_union outElems_dis).1 $$ Hf
  isplitl [Ha H0]
  · isplitl [Ha]
    · iexists f; iexact Ha
    · iexact H0
  · isplitl [Hb]
    · iexists f; iexact Hb
    · iexact H1

theorem outFree_close :
    iprop(outFree d i 0 ∗ outFree d i 1)
      ⊢ (iprop((∃ f, outL d i ↦{fullShare} f) ∗ semVal (cell d i (outSem 0)) 0 ∗ semVal (cell d i (outSem 1)) 0) : sProp 𝕄) := by
  unfold outFree
  iintro ⟨⟨⟨%f, Ha⟩, H0⟩, ⟨%g, Hb⟩, H1⟩
  isplitl [Ha Hb]
  · ihave H := (pointsTo_join (ℓ := outL d i) (I := outElems 0) (J := outElems 1) outElems_dis) $$ [Ha Hb]
    · isplitl [Ha] <;> iassumption
    rw [outElems_two]
    iexists _; iexact H
  · isplitl [H0] <;> iassumption

variable (X : S625x100x32.Idx → Elt F .f32) (Y : S625x100x16.Idx → Elt F .f32)

/-- What a tile is given of the two arrays, the second at `Z`. -/
abbrev tilePts (Z : S625x100x16.Idx → Elt F .f32) : sProp 𝕄 :=
  iprop((xL d i ↦[xHeld i (cnt i)]{fullShare} X) ∗ (yL d i ↦[yTodo i 0]{fullShare} Z))

/-- A tile's task from its own scratch: its elements of the second array end at the values wanted. -/
@[irreducible] def TileBody (O : CellTallies nD τ sig (HIx 1)) (W : Waits sig (HIx 1)) : Prop :=
    iprop(levAts (K (F := F)).L (K (F := F)).lev ∗ emp ∗ tilePts d i X Y ∗ scopedBufs (th d i) ∗ scopedSems0 (th d i) ∗ owes (th d i) O W)
      ⊢ wp frame (wpE (defs₀ (F := F)) 𝒱₀ (th d i) none) Set.univ
          (cc0_sc_kernel (F := F) i (Memref.whole main_v0_scv) (Memref.isWhole_whole _) (Memref.whole main_v1_scv) (Memref.isWhole_whole _)
            (Memref.whole cc0_scoped0) (Memref.isWhole_whole _) cc0_scoped1 (Memref.whole cc0_scoped2) (Memref.isWhole_whole _) cc0_scoped3)
          fun _ => iprop(tilePts d i X (want X) ∗ scopedBufs (th d i) ∗ scopedSems0 (th d i)
            ∗ ∃ W', ⌜∀ p ∈ W', p ∈ W ∨ p.2 = none⌝ ∗ owes (th d i) O W')

set_option maxHeartbeats 2000000 in
theorem tile_body (hF : (K (F := F)).Facts) (O : CellTallies nD τ sig (HIx 1)) (W : Waits sig (HIx 1)) (hO : ∀ g, O g none = 0) :
    TileBody d i X Y O W := by
  unfold TileBody
  have ht := tile (F := F) d i X Y O W
  rw [(K (F := F)).scopedBufs_V hF, SparseCore.Cfg.scopedSems0_V (Val := Elt F), ownSems0_V, ownBufs_V]
  iintro ⟨#Hlv, -, ⟨Hx, Hy⟩, ⟨Hin, Hout, Hbufs⟩, ⟨H0, H1, H2, H3, Hsems⟩, HO⟩
  ihave #Hmw := ((K (F := F)).mayWaits_none (thr := th d i) hO) $$ Hlv
  ihave Hi := (inFree_open d i) $$ [Hin H0 H1]
  · isplitl [Hin]; · iexact Hin
    isplitl [H0] <;> iassumption
  ihave Ho := (outFree_open d i) $$ [Hout H2 H3]
  · isplitl [Hout]; · iexact Hout
    isplitl [H2] <;> iassumption
  ihave Hwp := ht $$ [Hi Ho Hx Hy HO]
  · iframe
    iexact Hmw
  iapply (wp_wand frame (wpE (defs₀ (F := F)) 𝒱₀ (th d i) none) Set.univ) $$ Hwp
  iintro %u ⟨Hi, Ho, Hx, Hy, HO⟩
  ihave ⟨Hin, H0, H1⟩ := (inFree_close d i) $$ Hi
  ihave ⟨Hout, H2, H3⟩ := (outFree_close d i) $$ Ho
  iframe
  isplitl [Hx] <;> iassumption

end Tile

end Cert.KernelIdeal.Tile

end
-- ==== Proof.KI.Deal.lean ====
/- How the two arrays are dealt to the two cores and their sixteen tiles each, and what the launch theorem asks of the
   deal. -/
module

public import proofs.«01_k».proof.Defs
public import proofs.«01_k».proof.Proof.KI.Launch
public import proofs.«01_k».proof.Proof.Gen.KernelIdeal
public import Idealize.ShloMosaic.Lib.StableHlo.Run

@[expose] public section

noncomputable section

namespace Cert.KernelIdeal.Tile

open Idealize.ShloMosaic
open Cert.KernelIdeal Cert.KernelIdeal.Gen
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The deal -/

def coordsV (c : Fin (grid0.bound 0)) (s : Fin (grid0.bound 1)) : grid0.Coords :=
  fun | 0 => c | 1 => s | ⟨_ + 2, h⟩ => absurd h (Nat.not_lt.2 (Nat.le_add_left _ _))

/-- A tile by its core and its number there. -/
abbrev at' (c : Fin 2) (s : Fin 16) : grid0.Coords := coordsV c s

theorem wid_at (c : Fin 2) (s : Fin 16) : wid (at' c s) = s.val + 16 * c.val := rfl

abbrev tileX (c : Fin 2) (s : Fin 16) : Finset S625x100x32.Idx := xHeld (at' c s) (cnt (at' c s))
abbrev tileY (c : Fin 2) (s : Fin 16) : Finset S625x100x16.Idx := yTodo (at' c s) 0

theorem mem_tileX {c : Fin 2} {s : Fin 16} {x : S625x100x32.Idx} : x ∈ tileX c s ↔ owner (x 0).val = s.val + 16 * c.val := by
  rw [mem_xHeld, ← wid_at, ← mem_iff_owner]
  omega
theorem mem_tileY {c : Fin 2} {s : Fin 16} {x : S625x100x16.Idx} : x ∈ tileY c s ↔ owner (x 0).val = s.val + 16 * c.val := by
  rw [mem_yTodo, ← wid_at, ← mem_iff_owner]
  omega

def coreX (c : Fin 2) : Finset S625x100x32.Idx := Finset.univ.biUnion (tileX c)
def coreY (c : Fin 2) : Finset S625x100x16.Idx := Finset.univ.biUnion (tileY c)

theorem tileX_dis (c : Fin 2) : ∀ s ∈ (Finset.univ : Finset (Fin 16)), ∀ s' ∈ (Finset.univ : Finset (Fin 16)), s ≠ s' → Disjoint (tileX c s) (tileX c s') :=
  fun s _ s' _ h => Finset.disjoint_left.mpr fun x h1 h2 => h (Fin.ext (by rw [mem_tileX] at h1 h2; omega))
theorem tileY_dis (c : Fin 2) : ∀ s ∈ (Finset.univ : Finset (Fin 16)), ∀ s' ∈ (Finset.univ : Finset (Fin 16)), s ≠ s' → Disjoint (tileY c s) (tileY c s') :=
  fun s _ s' _ h => Finset.disjoint_left.mpr fun x h1 h2 => h (Fin.ext (by rw [mem_tileY] at h1 h2; omega))

theorem mem_coreX {c : Fin 2} {x : S625x100x32.Idx} : x ∈ coreX c ↔ owner (x 0).val / 16 = c.val := by
  unfold coreX
  rw [Finset.mem_biUnion]
  constructor
  · rintro ⟨s, -, h⟩
    rw [mem_tileX] at h
    have := s.isLt
    omega
  · intro h
    refine ⟨⟨owner (x 0).val % 16, Nat.mod_lt _ (by decide)⟩, Finset.mem_univ _, mem_tileX.mpr ?_⟩
    show _ = owner (x 0).val % 16 + 16 * c.val
    omega
theorem mem_coreY {c : Fin 2} {x : S625x100x16.Idx} : x ∈ coreY c ↔ owner (x 0).val / 16 = c.val := by
  unfold coreY
  rw [Finset.mem_biUnion]
  constructor
  · rintro ⟨s, -, h⟩
    rw [mem_tileY] at h
    have := s.isLt
    omega
  · intro h
    refine ⟨⟨owner (x 0).val % 16, Nat.mod_lt _ (by decide)⟩, Finset.mem_univ _, mem_tileY.mpr ?_⟩
    show _ = owner (x 0).val % 16 + 16 * c.val
    omega

theorem core_of {b : ℕ} (hb : b < 625) : owner b / 16 = 0 ∨ owner b / 16 = 1 := by
  have := owner_lt hb
  omega

theorem coreX_dis : Disjoint (coreX 0) (coreX 1) :=
  Finset.disjoint_left.mpr fun x h h' => by
    rw [mem_coreX] at h h'
    exact absurd (h.symm.trans h') (by decide)
theorem coreY_dis : Disjoint (coreY 0) (coreY 1) :=
  Finset.disjoint_left.mpr fun x h h' => by
    rw [mem_coreY] at h h'
    exact absurd (h.symm.trans h') (by decide)
theorem coreX_two : coreX 0 ∪ coreX 1 = Finset.univ := by
  ext x
  rw [Finset.mem_union, mem_coreX, mem_coreX]
  exact ⟨fun _ => Finset.mem_univ _, fun _ => core_of (lt_of_lt_of_eq (x 0).isLt rfl)⟩
theorem coreY_two : coreY 0 ∪ coreY 1 = Finset.univ := by
  ext x
  rw [Finset.mem_union, mem_coreY, mem_coreY]
  exact ⟨fun _ => Finset.mem_univ _, fun _ => core_of (lt_of_lt_of_eq (x 0).isLt rfl)⟩

/-! ## The arrays -/

variable (m : (ℓ : Loc nD τ sig) → Buf (Elt F) ℓ) (ρ : Dev nD → PrngReg)

/-- The argument, the array the tiles read, the one they write, and the result. -/
abbrev aLoc (d : Dev nD) : Loc nD τ sig := (SparseCore.T d).loc main_arg0
abbrev xLoc (d : Dev nD) : Loc nD τ sig := (SparseCore.T d).loc main_v0
abbrev yLoc (d : Dev nD) : Loc nD τ sig := (SparseCore.T d).loc main_v1
abbrev rLoc (d : Dev nD) : Loc nD τ sig := (SparseCore.T d).loc main_v2

/-- The argument in the tiles' layout. -/
def X3 (d : Dev nD) : S625x100x32.Idx → Elt F .f32 :=
  shapeCast S625x100x32 (m (aLoc d) : S1000000x2.Idx → Elt F .f32) shapeCasts_S1000000x2_S625x100x32

variable [FloatOps F]

/-- What the program's result holds. -/
def out (d : Dev nD) : S1000000x1.Idx → Elt F .f32 :=
  shapeCast S1000000x1 (want (X3 m d)) shapeCasts_S625x100x16_S1000000x1

/-- The two arrays on a core's elements, the second at `Z`. -/
def corePts (d : Dev nD) (Z : S625x100x16.Idx → Elt F .f32) (c : Fin 2) : sProp 𝕄 :=
  iprop((xLoc d ↦[coreX c]{fullShare} X3 m d) ∗ (yLoc d ↦[coreY c]{fullShare} Z))
def tilePts' (d : Dev nD) (Z : S625x100x16.Idx → Elt F .f32) (c : Fin 2) (s : Fin 16) : sProp 𝕄 :=
  iprop((xLoc d ↦[tileX c s]{fullShare} X3 m d) ∗ (yLoc d ↦[tileY c s]{fullShare} Z))

instance corePts_storable (d : Dev nD) (Z) (c : Fin 2) : BI.Storable (upEmb : UEmb _ 𝕄) (corePts m d Z c) := by
  unfold corePts; infer_instance
instance tilePts_storable (d : Dev nD) (Z) (c : Fin 2) (s : Fin 16) : BI.Storable (upEmb : UEmb _ 𝕄) (tilePts' m d Z c s) := by
  unfold tilePts'; infer_instance

theorem corePts_tiles (d : Dev nD) (Z) (c : Fin 2) :
    (corePts m d Z c : sProp 𝕄) = bigSep Finset.univ fun s : Fin 16 => tilePts' m d Z c s := by
  unfold corePts tilePts'
  rw [bigSep_sep']
  unfold coreX coreY
  rw [pointsTo_biUnion Finset.univ (ℓ := xLoc d) (tileX c) (tileX_dis c), pointsTo_biUnion Finset.univ (ℓ := yLoc d) (tileY c) (tileY_dis c)]

/-- Both arrays whole are the two cores' parts. -/
theorem pts_cores (d : Dev nD) (Z) :
    iprop((xLoc d ↦{fullShare} X3 m d) ∗ (yLoc d ↦{fullShare} Z)) ⊣⊢ (iprop(corePts m d Z 0 ∗ corePts m d Z 1) : sProp 𝕄) := by
  unfold corePts
  constructor
  · iintro ⟨Hx, Hy⟩
    rw [← coreX_two, ← coreY_two]
    ihave ⟨Hx0, Hx1⟩ := (pointsTo_union coreX_dis).1 $$ Hx
    ihave ⟨Hy0, Hy1⟩ := (pointsTo_union coreY_dis).1 $$ Hy
    iframe
  · iintro ⟨⟨Hx0, Hy0⟩, Hx1, Hy1⟩
    rw [← coreX_two, ← coreY_two]
    isplitl [Hx0 Hx1]
    · iapply (pointsTo_union coreX_dis).2; iframe
    · iapply (pointsTo_union coreY_dis).2; iframe

/-! ## What the handshakes carry -/

def P : (K (F := F)).Pay (nD := nD) (Val := Elt F) (Name := ℕ) (U := UU) where
  st := fun q d c => match q with | 0 => corePts m d (m (yLoc d)) (Fin.cast nCore_zero c)
  dn := fun q d c => match q with | 0 => corePts m d (want (X3 m d)) (Fin.cast nCore_zero c)
  go := fun q d c i => match q with | 0 => tilePts' m d (m (yLoc d)) (Fin.cast nCore_zero c) (Fin.cast nSub_zero i)
  td := fun q d c i => match q with | 0 => tilePts' m d (want (X3 m d)) (Fin.cast nCore_zero c) (Fin.cast nSub_zero i)
  x := fun _ _ => iprop(emp)

instance P_storable : (P (F := F) m).IsStorable where
  st q d c := match q with | 0 => corePts_storable m d _ _
  dn q d c := match q with | 0 => corePts_storable m d _ _
  go q d c i := match q with | 0 => tilePts_storable m d _ _ _
  td q d c i := match q with | 0 => tilePts_storable m d _ _ _

/-! ## The launch theorem's obligations -/

theorem defs₀_vector (c : Fin τ.nSC) (s : Fin τ.nSub) :
    defs₀ (F := F) (.scVector c s) 0 ()
      = SparseCore.onTile hcore0 hsub0 (fun c s => cc0_sc_kernel (coordsV c s)
          (Memref.whole main_v0_scv) (Memref.isWhole_whole _) (Memref.whole main_v1_scv) (Memref.isWhole_whole _)
          (Memref.whole cc0_scoped0) (Memref.isWhole_whole _) cc0_scoped1 (Memref.whole cc0_scoped2) (Memref.isWhole_whole _) cc0_scoped3) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show corePts m d (m (yLoc d)) (Fin.cast nCore_zero c) ⊢ |={Set.univ}=> iprop(
      (bigSep Finset.univ fun i : Fin ((K (F := F)).nSub 0) => tilePts' m d (m (yLoc d)) (Fin.cast nCore_zero c) (Fin.cast nSub_zero i))
      ∗ ((bigSep Finset.univ fun i : Fin ((K (F := F)).nSub 0) => tilePts' m d (want (X3 m d)) (Fin.cast nCore_zero c) (Fin.cast nSub_zero i))
          -∗ corePts m d (want (X3 m d)) (Fin.cast nCore_zero c)))
  rw [bigSep_tasks (fun s => tilePts' m d (m (yLoc d)) (Fin.cast nCore_zero c) s),
    bigSep_tasks (fun s => tilePts' m d (want (X3 m d)) (Fin.cast nCore_zero c) s), corePts_tiles, corePts_tiles]
  iintro H; imodintro
  isplitl [H]; · iexact H
  iintro H; iexact H

end Cert.KernelIdeal.Tile

end
-- ==== Proof.KI.Obl.lean ====
/- A tile's task, in the form the launch theorem asks for. -/
module

public import proofs.«01_k».proof.Defs
public import proofs.«01_k».proof.Proof.KI.Deal
public import proofs.«01_k».proof.Proof.Gen.KernelIdeal
public import Idealize.ShloMosaic.Lib.StableHlo.Run

@[expose] public section

noncomputable section

namespace Cert.KernelIdeal.Tile

open Idealize.ShloMosaic
open Cert.KernelIdeal Cert.KernelIdeal.Gen
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)
variable [FloatOps F]

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have h : TileBody d (coordsV ⟨((K (F := F)).core 0 c).val, hc.1⟩ ⟨((K (F := F)).sub 0 i).val, hc.2⟩) (X3 m d) (m (yLoc d)) O W :=
    tile_body _ _ _ _ hF O W hO
  unfold TileBody at h
  generalize cc0_sc_kernel (F := F) (coordsV ⟨((K (F := F)).core 0 c).val, hc.1⟩ ⟨((K (F := F)).sub 0 i).val, hc.2⟩)
    (Memref.whole main_v0_scv) (Memref.isWhole_whole _) (Memref.whole main_v1_scv) (Memref.isWhole_whole _)
    (Memref.whole cc0_scoped0) (Memref.isWhole_whole _) cc0_scoped1 (Memref.whole cc0_scoped2) (Memref.isWhole_whole _) cc0_scoped3 = p at h ⊢
  exact BI.Entails.trans h (wp_mono frame _ _ fun _ => obl_post)

end Cert.KernelIdeal.Tile

end
-- ==== Proof.KI.Run.lean ====
/- The host program around the call, and the run of the whole program with what its result holds. -/
module

public import proofs.«01_k».proof.Defs
public import proofs.«01_k».proof.Proof.KI.Obl
public import proofs.«01_k».proof.Proof.Gen.KernelIdeal
public import Idealize.ShloMosaic.Lib.StableHlo.Run

@[expose] public section

noncomputable section

namespace Cert.KernelIdeal.Tile

open Idealize.ShloMosaic
open Cert.KernelIdeal Cert.KernelIdeal.Gen
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo

variable {F : FTy → Type}

local notation "𝕄" => MT nD τ sig (HIx 1) (Elt F) ℕ UU ℕ

variable (m : (ℓ : Loc nD τ sig) → Buf (Elt F) ℓ) (ρ : Dev nD → PrngReg)

/-! ## The launch's ghost state: the handshakes' rounds, nothing of the kernel's own -/

def u₀ : UU := (initOf (K (F := F)).hsCells (K (F := F)).hsToks, 1)

theorem bigSep_emp' {I : Type} (s : Finset I) : (bigSep s fun _ => iprop(emp)) = (iprop(emp) : sProp 𝕄) := bigSep_emp_const s

/-! ## The host's arrays -/

/-- The four arrays as the host's operations name them. -/
abbrev a' : DevRef τ sig := Proc.devRef .tc (main_arg0 : Ref sig .tc)
abbrev x' : DevRef τ sig := Proc.devRef .tc (main_v0 : Ref sig .tc)
abbrev y' : DevRef τ sig := Proc.devRef .tc (main_v1 : Ref sig .tc)
abbrev r' : DevRef τ sig := Proc.devRef .tc (main_v2 : Ref sig .tc)

/-- The two reshapes. -/
abbrev opIn : HloOp τ sig (Elt F) := StableHlo.reshape main_arg0 main_v0 (rfl : (.f32 : EltTy) = .f32) shapeCasts_S1000000x2_S625x100x32
abbrev opOut : HloOp τ sig (Elt F) := StableHlo.reshape main_v1 main_v2 (rfl : (.f32 : EltTy) = .f32) shapeCasts_S625x100x16_S1000000x1

theorem held_in (d : Dev nD) (W : Valuation τ sig (Elt F)) :
    (held (T d) {a', x'} W : sProp 𝕄) = iprop((aLoc d ↦{fullShare} W a') ∗ xLoc d ↦{fullShare} W x') := by
  unfold held
  rw [SparseCore.bigSep_insert' (by decide), bigSep_singleton]
theorem held_out (d : Dev nD) (W : Valuation τ sig (Elt F)) :
    (held (T d) {y', r'} W : sProp 𝕄) = iprop((yLoc d ↦{fullShare} W y') ∗ rLoc d ↦{fullShare} W r') := by
  unfold held
  rw [SparseCore.bigSep_insert' (by decide), bigSep_singleton]

theorem unscoped_four (d : Dev nD) (W : (b : Ref sig .tc) → Buf (Elt F) ((d.tc : Thread nD τ).loc b)) :
    (unscopedBufs d W : sProp 𝕄) = iprop((aLoc d ↦{fullShare} W main_arg0) ∗ (xLoc d ↦{fullShare} W main_v0)
      ∗ (yLoc d ↦{fullShare} W main_v1) ∗ rLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The valuations the two operations run at: the launch's, and with the tiles' array at `Z`. -/
def V0 (d : Dev nD) : Valuation τ sig (Elt F) := fun b => m (d, b)
def V1 (d : Dev nD) (Z : S625x100x16.Idx → Elt F .f32) : Valuation τ sig (Elt F) := Function.update (V0 m d) y' Z

theorem V1_y (d : Dev nD) (Z) : V1 m d Z y' = Z := Function.update_self _ _ _
theorem V1_r (d : Dev nD) (Z) : V1 m d Z r' = m (rLoc d) := Function.update_of_ne (show r' ≠ y' by decide) _ _

theorem opIn_a (d : Dev nD) : (opIn (F := F)).result (V0 m d) a' = m (aLoc d) :=
  HloOp.result_of_not_mem _ _ (show a' ∉ ({x'} : Finset (DevRef τ sig)) by decide)
theorem opIn_x (d : Dev nD) : (opIn (F := F)).result (V0 m d) x' = X3 m d :=
  StableHlo.reshape_result _ _ _ _ _ _ _
theorem opOut_r (d : Dev nD) (Z : S625x100x16.Idx → Elt F .f32) :
    (opOut (F := F)).result (V1 m d Z) r' = shapeCast S1000000x1 Z shapeCasts_S625x100x16_S1000000x1 := by
  refine (StableHlo.reshape_result _ _ _ _ _ _ _).trans ?_
  rw [V1_y]; rfl

variable [FloatOps F]

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-- What the call takes and brings back: the two arrays whole, the second at the launch's contents and then at the
    values wanted. -/
theorem st_whole (d : Dev nD) :
    (bigSep Finset.univ fun c : Fin ((K (F := F)).nCore 0) => (P m).st 0 d c) = iprop(corePts m d (m (yLoc d)) 0 ∗ corePts m d (m (yLoc d)) 1) := by
  show (bigSep (Finset.univ : Finset (Fin 2)) fun c => corePts m d (m (yLoc d)) c) = _
  rw [show (Finset.univ : Finset (Fin 2)) = {0, 1} by decide, SparseCore.bigSep_insert' (by decide), bigSep_singleton]
theorem dn_whole (d : Dev nD) :
    (bigSep Finset.univ fun c : Fin ((K (F := F)).nCore 0) => (P m).dn 0 d c) = iprop(corePts m d (want (X3 m d)) 0 ∗ corePts m d (want (X3 m d)) 1) := by
  show (bigSep (Finset.univ : Finset (Fin 2)) fun c => corePts m d (want (X3 m d)) c) = _
  rw [show (Finset.univ : Finset (Fin 2)) = {0, 1} by decide, SparseCore.bigSep_insert' (by decide), bigSep_singleton]

/-- What the host leaves: the argument as it was, the result at its value. -/
abbrev FIN (d : Dev nD) : sProp 𝕄 := iprop((aLoc d ↦{fullShare} m (aLoc d)) ∗ rLoc d ↦{fullShare} out m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_four]
  simp only [main, wp_bind, wp_pure]
  iintro ⟨#Hctx, Hst, ⟨Hb, ⟨Ha, Hx, Hy, Hr⟩, Hts, -⟩, -⟩
  -- the argument into the tiles' layout
  iapply (wp_hlo_within 𝒱 (SparseCore.T d) none Set.univ (op := opIn) (S := {a', x'}) (Finset.Subset.refl _) (V := V0 m d)) $$ [Hb Ha Hx]
  · isplitl [Hb]; · iexact Hb
    rw [held_in]
    isplitl [Ha]; · iexact Ha
    iexact Hx
  iintro ⟨Hb, Hheld⟩
  ihave Hh := (Entails.of_eq (held_in (F := F) d _)) $$ Hheld
  rw [opIn_a, opIn_x]
  icases Hh with ⟨Ha, Hx⟩
  rw [wp_ret]; imodintro
  -- the call
  iapply ((K (F := F)).wp_run (D (F := F)) 𝒱 (EH := EH) (P := P m) κ d 0) $$ [Hst Hx Hy Hb Ha Hr Hts]
  isplitr; · iexact Hctx
  isplitl [Hst]; · iexact Hst
  isplitl [Hx Hy]
  · rw [st_whole]
    iapply (pts_cores m d (m (yLoc d))).1
    isplitl [Hx]; · iexact Hx
    iexact Hy
  iintro ⟨Hst, Hdn⟩
  ihave Hdn' := (Entails.of_eq (dn_whole m d)) $$ Hdn
  ihave ⟨Hx, Hy⟩ := (pts_cores m d (want (X3 m d))).2 $$ Hdn'
  -- the tiles' array out of their layout
  iapply (wp_hlo_within 𝒱 (SparseCore.T d) none Set.univ (op := opOut) (S := {y', r'}) (Finset.Subset.refl _) (V := V1 m d (want (X3 m d)))) $$ [Hb Hy Hr]
  · isplitl [Hb]; · iexact Hb
    rw [held_out, V1_y, V1_r]
    isplitl [Hy]; · iexact Hy
    iexact Hr
  iintro ⟨Hb, Hheld⟩
  ihave Hh := (Entails.of_eq (held_out (F := F) d _)) $$ Hheld
  rw [opOut_r]
  icases Hh with ⟨-, Hr⟩
  rw [wp_ret]; imodintro; imodintro
  isplitl [Hst]; · iexact Hst
  isplitl [Ha Hr]
  · isplitl [Ha]; · iexact Ha
    iexact Hr
  isplitl [Hb] <;> iassumption

/-! ## The run and the claim -/

def fq (d : Dev nD) (s : Phys nD τ sig (Elt F)) : Prop := s.mem.mem (aLoc d) = m (aLoc d) ∧ s.mem.mem (rLoc d) = out m d

theorem hfin (d : Dev nD) (s : Phys nD τ sig (Elt F)) : iprop(FIN m d ∗ SI s) ⊢ (⌜fq m d s⌝ : sProp 𝕄) := by
  iintro ⟨⟨Ha, Hr⟩, HSI⟩
  ihave H := (persistent_entails_right (SI_pointsTo_agree (st := s) (ℓ := aLoc d) (I := Finset.univ) (q := fullShare) (f := m (aLoc d)))) $$ [HSI Ha]
  · isplitl [HSI] <;> iassumption
  icases H with ⟨%ha, HSI, -⟩
  ihave H := (SI_pointsTo_agree (st := s) (ℓ := rLoc d) (I := Finset.univ) (q := fullShare) (f := out m d)) $$ [HSI Hr]
  · isplitl [HSI] <;> iassumption
  icases H with %hr
  ipureintro
  exact ⟨funext fun i => ha i (Finset.mem_univ i), funext fun i => hr i (Finset.mem_univ i)⟩

def QC : PUnit × MemSt nD τ sig (Elt F) → Prop := fun r =>
  (∀ c : Dev nD, r.2.mem (aLoc c) = m (aLoc c) ∧ r.2.mem (rLoc c) = out m c) ∧ r.2.sem = fun _ => 0

/-- The whole program's run: the argument as it was, the result at `out`, every semaphore zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.KernelIdeal.Tile

end
-- ==== Proof.Alg.Value.lean ====
/- The two results are one function of the argument: row `k` of either is a thousand if the row's first word lies
   within three of zero and its second within one and a half, else zero. -/
module

public import proofs.«01_k».proof.Defs
public import proofs.«01_k».proof.Proof.KI.Run
public import proofs.«01_k».proof.Proof.Gen.ReferenceIdeal.Run

@[expose] public section

noncomputable section

namespace Cert.Indicator

open Idealize.ShloMosaic Idealize.ShloMosaic.ValueIdx

/-! ## The thresholds -/

theorem three : Ideal.ofBits .f32 0x40400000#32 = ((3 : ℝ) : EReal) := by
  simp [Ideal.ofBits, Ideal.ieee, -EReal.coe_mul]; norm_num
theorem three_neg : Ideal.ofBits .f32 0xC0400000#32 = -((3 : ℝ) : EReal) := by
  rw [← EReal.coe_neg]
  simp [Ideal.ofBits, Ideal.ieee, -EReal.coe_mul, -EReal.coe_neg]; norm_num
theorem half3 : Ideal.ofBits .f32 0x3FC00000#32 = ((3 / 2 : ℝ) : EReal) := by
  simp [Ideal.ofBits, Ideal.ieee, -EReal.coe_mul]; norm_num
theorem half3_neg : Ideal.ofBits .f32 0xBFC00000#32 = -((3 / 2 : ℝ) : EReal) := by
  rw [← EReal.coe_neg]
  simp [Ideal.ofBits, Ideal.ieee, -EReal.coe_mul, -EReal.coe_neg]; norm_num

/-- Within `t` of zero by the absolute value is within `t` of zero by the two bounds. -/
theorem within (e t : EReal) : Ideal.cmp .ole (max e (-e)) t = Ideal.cmp .oge e (-t) &&& Ideal.cmp .ole e t := by
  have h : (max e (-e) ≤ t) ↔ (-t ≤ e ∧ e ≤ t) := by
    rw [max_le_iff, EReal.neg_le, and_comm]
  unfold Ideal.cmp
  by_cases h1 : -t ≤ e <;> by_cases h2 : e ≤ t <;> simp [h, h1, h2]

/-! ## The reference, row by row -/

section Reference
open Cert.ReferenceIdeal Cert.ReferenceIdeal.Gen

/-- The reference's result as a function of its argument. -/
def spec (x : S1000000x2.Idx → Elt Ideal .f32) : S1000000x1.Idx → Elt Ideal .f32 :=
  select (broadcastInDim S1000000x1 ![0] bcast_S1000000_S1000000x1_0
      (andi (andi (andi
        (cmpf .oge (shapeCast S1000000 (extractStridedSlice S1000000x1 ![0, 0] x slices_S1000000x2_S1000000x1_0_0) shapeCasts_S1000000x1_S1000000) (broadcastInDim S1000000 ![] bcast_S_S1000000 (constant (F := Ideal) S_ .f32 0xC0400000#32)))
        (cmpf .ole (shapeCast S1000000 (extractStridedSlice S1000000x1 ![0, 0] x slices_S1000000x2_S1000000x1_0_0) shapeCasts_S1000000x1_S1000000) (broadcastInDim S1000000 ![] bcast_S_S1000000 (constant (F := Ideal) S_ .f32 0x40400000#32))))
        (cmpf .oge (shapeCast S1000000 (extractStridedSlice S1000000x1 ![0, 1] x slices_S1000000x2_S1000000x1_0_1) shapeCasts_S1000000x1_S1000000) (broadcastInDim S1000000 ![] bcast_S_S1000000 (constant (F := Ideal) S_ .f32 0xBFC00000#32))))
        (cmpf .ole (shapeCast S1000000 (extractStridedSlice S1000000x1 ![0, 1] x slices_S1000000x2_S1000000x1_0_1) shapeCasts_S1000000x1_S1000000) (broadcastInDim S1000000 ![] bcast_S_S1000000 (constant (F := Ideal) S_ .f32 0x3FC00000#32)))))
    (broadcastInDim S1000000x1 ![] bcast_S_S1000000x1 (constant (F := Ideal) S_ .f32 0x447A0000#32))
    (broadcastInDim S1000000x1 ![] bcast_S_S1000000x1 (constant (F := Ideal) S_ .f32 0x00000000#32))

/-- The argument's row `k`, word `j`. -/
abbrev at2 (k : Fin 1000000) (j : Fin 2) : S1000000x2.Idx := ix2 k j

theorem col_zero (x : S1000000x2.Idx → Elt Ideal .f32) (i : S1000000.Idx) :
    shapeCast S1000000 (extractStridedSlice S1000000x1 ![0, 0] x slices_S1000000x2_S1000000x1_0_0) shapeCasts_S1000000x1_S1000000 i
      = x (at2 (i 0) 0) := by
  rw [shapeCast_apply _ _ i (ix2 (i 0) (0 : Fin 1) : S1000000x1.Idx)
    (by rw [Shape.rowMajor_val_one, Shape.rowMajor_val_two]; exact Nat.mul_one _)]
  exact extractStridedSlice_apply _ _ _ _ _ fun a => match a with
    | 0 => (Nat.zero_add _).symm
    | 1 => rfl

theorem col_one (x : S1000000x2.Idx → Elt Ideal .f32) (i : S1000000.Idx) :
    shapeCast S1000000 (extractStridedSlice S1000000x1 ![0, 1] x slices_S1000000x2_S1000000x1_0_1) shapeCasts_S1000000x1_S1000000 i
      = x (at2 (i 0) 1) := by
  rw [shapeCast_apply _ _ i (ix2 (i 0) (0 : Fin 1) : S1000000x1.Idx)
    (by rw [Shape.rowMajor_val_one, Shape.rowMajor_val_two]; exact Nat.mul_one _)]
  exact extractStridedSlice_apply _ _ _ _ _ fun a => match a with
    | 0 => (Nat.zero_add _).symm
    | 1 => rfl

/-- One row's value from its two words, by the reference's four comparisons. -/
def row (e o : Ideal .f32) : Ideal .f32 :=
  Scalar.select (((Ideal.cmp .oge e (Ideal.ofBits .f32 0xC0400000#32) &&& Ideal.cmp .ole e (Ideal.ofBits .f32 0x40400000#32))
      &&& Ideal.cmp .oge o (Ideal.ofBits .f32 0xBFC00000#32)) &&& Ideal.cmp .ole o (Ideal.ofBits .f32 0x3FC00000#32))
    (Ideal.ofBits .f32 0x447A0000#32) (Ideal.ofBits .f32 0x00000000#32)

theorem spec_row (x : S1000000x2.Idx → Elt Ideal .f32) (j : S1000000x1.Idx) :
    spec x j = row (x (at2 (j 0) 0)) (x (at2 (j 0) 1)) := by
  have hb : ∀ v : S1000000.Idx → BitVec 1, broadcastInDim S1000000x1 ![0] bcast_S1000000_S1000000x1_0 v j = v (ix1 (j 0)) :=
    fun v => broadcastInDim_apply _ _ _ _ _ fun a => match a with | 0 => rfl
  show Scalar.select (broadcastInDim (s := S1000000) S1000000x1 ![0] bcast_S1000000_S1000000x1_0 _ j) _ _ = _
  rw [hb]
  show Scalar.select (((Ideal.cmp .oge (shapeCast S1000000 _ _ (ix1 (j 0))) _ &&& Ideal.cmp .ole (shapeCast S1000000 _ _ (ix1 (j 0))) _)
      &&& Ideal.cmp .oge (shapeCast S1000000 _ _ (ix1 (j 0))) _) &&& Ideal.cmp .ole (shapeCast S1000000 _ _ (ix1 (j 0))) _) _ _ = _
  rw [col_zero, col_one]
  rfl

end Reference

/-! ## The kernel's row -/

section Kernel
open Cert.KernelIdeal Cert.KernelIdeal.Gen Cert.KernelIdeal.Tile

theorem pay_row (e o : Ideal .f32) : pay (F := Ideal) e o = row e o := by
  show Scalar.select (Ideal.cmp .ole (max e (-e)) (Ideal.ofBits .f32 0x40400000#32)
      &&& Ideal.cmp .ole (max o (-o)) (Ideal.ofBits .f32 0x3FC00000#32)) (Ideal.ofBits .f32 0x447A0000#32) (Ideal.ofBits .f32 0x00000000#32) = _
  unfold row
  rw [within, within, three, three_neg, half3, half3_neg, BitVec.and_assoc, BitVec.and_assoc, BitVec.and_assoc]

variable (m : (ℓ : Loc nD τ sig) → Buf (Elt Ideal) ℓ)

/-- A word of the tiles' layout is the argument's at the same place in row-major order. -/
theorem X3_at (d : Dev nD) (z : S625x100x32.Idx) (k : Fin 1000000) (j : Fin 2)
    (h : k.val * 2 + j.val = ((z 0).val * 100 + (z 1).val) * 32 + (z 2).val) :
    X3 m d z = (m (aLoc d) : S1000000x2.Idx → Elt Ideal .f32) (ix2 k j) :=
  shapeCast_apply _ _ z (ix2 k j : S1000000x2.Idx) (by
    rw [Shape.rowMajor_val_two, Shape.rowMajor_val_three]
    exact h)

theorem out_row (d : Dev nD) (j : S1000000x1.Idx) :
    out m d j = row ((m (aLoc d) : S1000000x2.Idx → Elt Ideal .f32) (ix2 (j 0) 0)) ((m (aLoc d) : S1000000x2.Idx → Elt Ideal .f32) (ix2 (j 0) 1)) := by
  have hk : (j 0).val < 1000000 := (j 0).isLt
  have h1 : (j 1).val < 1 := (j 1).isLt
  unfold out
  rw [shapeCast_apply _ _ j (ix3 (⟨(j 0).val / 1600, by omega⟩ : Fin 625) (⟨(j 0).val / 16 % 100, by omega⟩ : Fin 100) (⟨(j 0).val % 16, by omega⟩ : Fin 16) : S625x100x16.Idx)
    (by
      rw [Shape.rowMajor_val_two, Shape.rowMajor_val_three]
      show ((j 0).val / 1600 * 100 + (j 0).val / 16 % 100) * 16 + (j 0).val % 16 = (j 0).val * 1 + (j 1).val
      omega)]
  unfold want
  rw [pay_row]
  refine congrArg₂ row (X3_at m d _ (j 0) 0 ?_) (X3_at m d _ (j 0) 1 ?_)
  · show (j 0).val * 2 + 0 = ((j 0).val / 1600 * 100 + (j 0).val / 16 % 100) * 32 + 2 * ((j 0).val % 16)
    omega
  · show (j 0).val * 2 + 1 = ((j 0).val / 1600 * 100 + (j 0).val / 16 % 100) * 32 + (2 * ((j 0).val % 16) + 1)
    omega

/-- The kernel's result is the reference's function of the argument. -/
theorem out_spec (d : Dev nD) : out m d = spec (m (aLoc d)) :=
  funext fun j => (out_row m d j).trans (spec_row _ j).symm

end Kernel

end Cert.Indicator

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.K.Run
public import proofs.«01_k».proof.Proof.KI.Run
public import proofs.«01_k».proof.Proof.Alg.Value
public import Idealize.ShloMosaic.Adequacy
public import Idealize.ShloMosaic.Init

@[expose] public section

noncomputable section

namespace Cert.Proof

open Idealize.ShloMosaic Idealize.SL.Sem Cert.Kernel

/-- The kernel as taken leaves its argument as it was and every semaphore at zero. -/
theorem frame_kernel : Cert.quiescent_Kernel := fun m ρ _ =>
  (θ_run Cert.Kernel.defs _ _).mono (fun _ h => ⟨fun c => (h.1 c).1, h.2⟩) (Cert.Kernel.Tile.run_main (F := Bits) m ρ)

/-- So does its reading over the extended reals, -/
theorem frame_kernelIdeal : Cert.quiescent_KernelIdeal := fun m ρ _ =>
  (θ_run Cert.KernelIdeal.defs _ _).mono (fun _ h => ⟨fun c => (h.1 c).1, h.2⟩) (Cert.KernelIdeal.Tile.run_main (F := Ideal) m ρ)

/-- and the reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Both end with the reference's function of the argument. -/
theorem equal : Cert.algebraic_KernelIdeal_ReferenceIdeal := fun m ρ m' ρ' _ hm =>
  ⟨fun c => Cert.Indicator.spec (m (Cert.KernelIdeal.Tile.aLoc c)),
    (θ_run Cert.KernelIdeal.defs _ _).mono (fun _ h c => ⟨(h.1 c).2.trans (Cert.Indicator.out_spec m c), (h.1 c).1⟩)
      (Cert.KernelIdeal.Tile.run_main (F := Ideal) m ρ),
    (θ_run Cert.ReferenceIdeal.defs _ _).mono (fun _ h c => ⟨(h c).1.trans (congrArg Cert.Indicator.spec (hm c)), (h c).2⟩)
      (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_reference, trivial, equal⟩

end Cert.Proof

end
